-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_no_tie [hPre_finite_no_tie : Cert.Pre_finite_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.1 = (fun _ => 1#1)
    ∧ (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.1 = (fun _ => 1#1)
    ∧ (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.1 = (fun _ => 1#1)
    ∧ (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.1 = (fun _ => 1#1)
    ∧ (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.1 = (fun _ => 1#1)
    ∧ (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.1 = (fun _ => 1#1)
    ∧ (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.1 = (fun _ => 1#1)
    ∧ (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.1 = (fun _ => 1#1)
    ∧ (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.2.1 = (fun _ => 1#1)
    ∧ (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.2.2.1 = (fun _ => 1#1)
    ∧ (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.2.2.2.1 = (fun _ => 1#1)
    ∧ (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_no_tie [hPre_finite_no_tie : Cert.Pre_finite_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.1 = (fun _ => 1#1)
    ∧ (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.1 = (fun _ => 1#1)
    ∧ (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.1 = (fun _ => 1#1)
    ∧ (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.1 = (fun _ => 1#1)
    ∧ (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.1 = (fun _ => 1#1)
    ∧ (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.1 = (fun _ => 1#1)
    ∧ (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.1 = (fun _ => 1#1)
    ∧ (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.1 = (fun _ => 1#1)
    ∧ (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.2.1 = (fun _ => 1#1)
    ∧ (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.2.2.1 = (fun _ => 1#1)
    ∧ (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.2.2.2.1 = (fun _ => 1#1)
    ∧ (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_no_tie [hKernelIdeal : Cert.KernelIdeal.Facts] [hPre_finite_no_tie : Cert.Pre_finite_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_no_tie [hReferenceIdeal : Cert.ReferenceIdeal.Facts] [hPre_finite_no_tie : Cert.Pre_finite_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_no_tie [hKernelIdeal : Cert.KernelIdeal.Facts] [hReferenceIdeal : Cert.ReferenceIdeal.Facts] [hPre_finite_no_tie : Cert.Pre_finite_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_no_tie : Cert.Pre_finite_no_tie.Facts),
    quiescent_Kernel (hKernel := hKernel)
    ∧ quiescent_KernelIdeal (hKernelIdeal := hKernelIdeal)
    ∧ quiescent_KernelIdeal_pre_finite_no_tie (hKernelIdeal := hKernelIdeal) (hPre_finite_no_tie := hPre_finite_no_tie)
    ∧ quiescent_ReferenceIdeal (hReferenceIdeal := hReferenceIdeal)
    ∧ quiescent_ReferenceIdeal_pre_finite_no_tie (hReferenceIdeal := hReferenceIdeal) (hPre_finite_no_tie := hPre_finite_no_tie)
    ∧ preserves_Kernel_KernelIdeal
    ∧ algebraic_KernelIdeal_ReferenceIdeal_pre_finite_no_tie (hKernelIdeal := hKernelIdeal) (hReferenceIdeal := hReferenceIdeal) (hPre_finite_no_tie := hPre_finite_no_tie)
-- ==== Pre_finite_no_tie.lean ====
abbrev S128x64x64x25 : Shape := ⟨4, ![128, 64, 64, 25]⟩
abbrev S3x3x25x25 : Shape := ⟨4, ![3, 3, 25, 25]⟩
abbrev S3x16x64 : Shape := ⟨3, ![3, 16, 64]⟩
abbrev S3x16 : Shape := ⟨2, ![3, 16]⟩
abbrev S3x3x16x16 : Shape := ⟨4, ![3, 3, 16, 16]⟩
abbrev S3x3x16 : Shape := ⟨3, ![3, 3, 16]⟩
abbrev S3x16x32 : Shape := ⟨3, ![3, 16, 32]⟩
abbrev S64 : Shape := ⟨1, ![64]⟩
abbrev S_ : Shape := ⟨0, ![]⟩
abbrev S3x16x128x64x25 : Shape := ⟨5, ![3, 16, 128, 64, 25]⟩
abbrev S3x128x16x64x25 : Shape := ⟨5, ![3, 128, 16, 64, 25]⟩
abbrev S3x1x16x1x1 : Shape := ⟨5, ![3, 1, 16, 1, 1]⟩
abbrev S3x128x16x25 : Shape := ⟨4, ![3, 128, 16, 25]⟩
abbrev S3x128x25x25 : Shape := ⟨4, ![3, 128, 25, 25]⟩
abbrev S3x128x25 : Shape := ⟨3, ![3, 128, 25]⟩
abbrev S3x128x25x1 : Shape := ⟨4, ![3, 128, 25, 1]⟩
abbrev S3x128x1x25 : Shape := ⟨4, ![3, 128, 1, 25]⟩
abbrev S3x128x25x6 : Shape := ⟨4, ![3, 128, 25, 6]⟩
abbrev S3x128x25x5 : Shape := ⟨4, ![3, 128, 25, 5]⟩

class Facts : Prop where
  bcast_S_S128x64x64x25 : S_.BroadcastsInDim S128x64x64x25 (![] : Fin 0 → Fin S128x64x64x25.rank)
  bcast_S_S3x3x25x25 : S_.BroadcastsInDim S3x3x25x25 (![] : Fin 0 → Fin S3x3x25x25.rank)
  bcast_S_S3x16x64 : S_.BroadcastsInDim S3x16x64 (![] : Fin 0 → Fin S3x16x64.rank)
  bcast_S_S3x16 : S_.BroadcastsInDim S3x16 (![] : Fin 0 → Fin S3x16.rank)
  bcast_S_S3x3x16x16 : S_.BroadcastsInDim S3x3x16x16 (![] : Fin 0 → Fin S3x3x16x16.rank)
  bcast_S_S3x3x16 : S_.BroadcastsInDim S3x3x16 (![] : Fin 0 → Fin S3x3x16.rank)
  bcast_S_S3x16x32 : S_.BroadcastsInDim S3x16x32 (![] : Fin 0 → Fin S3x16x32.rank)
  bcast_S_S64 : S_.BroadcastsInDim S64 (![] : Fin 0 → Fin S64.rank)
  transposes_S3x16x128x64x25_S3x128x16x64x25_0_2_1_3_4 : S3x16x128x64x25.Transposes [0, 2, 1, 3, 4] S3x128x16x64x25
  bcast_S3x16_S3x1x16x1x1_0_2 : S3x16.BroadcastsInDim S3x1x16x1x1 (![0, 2] : Fin 2 → Fin S3x1x16x1x1.rank)
  bcast_S3x1x16x1x1_S3x128x16x64x25_0_1_2_3_4 : S3x1x16x1x1.BroadcastsInDim S3x128x16x64x25 (![0, 1, 2, 3, 4] : Fin 5 → Fin S3x128x16x64x25.rank)
  bcast_S_S3x128x16x64x25 : S_.BroadcastsInDim S3x128x16x64x25 (![] : Fin 0 → Fin S3x128x16x64x25.rank)
  reducesTo_S3x128x16x64x25_S3x128x16x25_d3 : S3x128x16x64x25.ReducesTo [3] S3x128x16x25
  h_S_ : 0 < S_.numel
  bcast_S_S3x128x16x25 : S_.BroadcastsInDim S3x128x16x25 (![] : Fin 0 → Fin S3x128x16x25.rank)
  bcast_S_S3x128x25x25 : S_.BroadcastsInDim S3x128x25x25 (![] : Fin 0 → Fin S3x128x25x25.rank)
  reducesTo_S3x128x16x25_S3x128x25_d2 : S3x128x16x25.ReducesTo [2] S3x128x25
  bcast_S3x128x25_S3x128x25x1_0_1_2 : S3x128x25.BroadcastsInDim S3x128x25x1 (![0, 1, 2] : Fin 3 → Fin S3x128x25x1.rank)
  bcast_S3x128x25x1_S3x128x25x25_0_1_2_3 : S3x128x25x1.BroadcastsInDim S3x128x25x25 (![0, 1, 2, 3] : Fin 4 → Fin S3x128x25x25.rank)
  bcast_S3x128x25_S3x128x1x25_0_1_3 : S3x128x25.BroadcastsInDim S3x128x1x25 (![0, 1, 3] : Fin 3 → Fin S3x128x1x25.rank)
  bcast_S3x128x1x25_S3x128x25x25_0_1_2_3 : S3x128x1x25.BroadcastsInDim S3x128x25x25 (![0, 1, 2, 3] : Fin 4 → Fin S3x128x25x25.rank)
  sliceFits_S3x128x25x25_S3x128x25x6 : S3x128x25x25.Slices (fun _ => 0) S3x128x25x6
  slices_S3x128x25x6_S3x128x25x5_0_0_0_0 : S3x128x25x6.Slices ![0, 0, 0, 0] S3x128x25x5
  slices_S3x128x25x6_S3x128x25x5_0_0_0_1 : S3x128x25x6.Slices ![0, 0, 0, 1] S3x128x25x5
  dot_S3x16x64_S128x64x64x25_S3x16x128x64x25_2_1_01_023_n_n_wf : DotDims.WF S3x16x64 S128x64x64x25 S3x16x128x64x25 [2] [1] [0, 1] [0, 2, 3] [] []
  dot_S3x128x16x25_S3x128x16x25_S3x128x25x25_2_2_3_3_01_01_wf : DotDims.WF S3x128x16x25 S3x128x16x25 S3x128x25x25 [2] [2] [3] [3] [0, 1] [0, 1]

variable [Facts]

def dot_S3x16x64_S128x64x64x25_S3x16x128x64x25_2_1_01_023_n_n : DotDims S3x16x64 S128x64x64x25 S3x16x128x64x25 where
  lhsContracting := [2]
  rhsContracting := [1]
  lhsNonContracting := [0, 1]
  rhsNonContracting := [0, 2, 3]
  lhsBatch := []
  rhsBatch := []
  wf := dot_S3x16x64_S128x64x64x25_S3x16x128x64x25_2_1_01_023_n_n_wf
def dot_S3x128x16x25_S3x128x16x25_S3x128x25x25_2_2_3_3_01_01 : DotDims S3x128x16x25 S3x128x16x25 S3x128x25x25 where
  lhsContracting := [2]
  rhsContracting := [2]
  lhsNonContracting := [3]
  rhsNonContracting := [3]
  lhsBatch := [0, 1]
  rhsBatch := [0, 1]
  wf := dot_S3x128x16x25_S3x128x16x25_S3x128x25x25_2_2_3_3_01_01_wf
def fn_part4 {F : FTy → Type} [FloatOps F] (main_v2 : IVec S128x64x64x25 1) (main_v5 : IVec S3x3x25x25 1) (main_v8 : IVec S3x16x64 1) (main_v11 : IVec S3x16 1) (main_v14 : IVec S3x16 1) (main_v17 : IVec S3x16 1) (main_v20 : IVec S3x3x16x16 1) (main_v23 : IVec S3x3x16 1) (main_v26 : IVec S3x3x16 1) (main_v29 : IVec S3x3x16 1) (main_v32 : IVec S3x16x32 1) (main_v35 : IVec S3x16 1) (main_v38 : IVec S3x16 1) (main_v41 : IVec S64 1) (main_v44 : IVec S64 1) (main_v73 : FVec F S3x128x25x25 .f32) (main_v74 : FVec F S3x128x1x25 .f32) : IVec S128x64x64x25 1 × IVec S3x3x25x25 1 × IVec S3x16x64 1 × IVec S3x16 1 × IVec S3x16 1 × IVec S3x16 1 × IVec S3x3x16x16 1 × IVec S3x3x16 1 × IVec S3x3x16 1 × IVec S3x3x16 1 × IVec S3x16x32 1 × IVec S3x16 1 × IVec S3x16 1 × IVec S64 1 × IVec S64 1 × IVec S3x128x25x5 1 :=
  let main_v75 : FVec F S3x128x25x25 .f32 := broadcastInDim S3x128x25x25 ![0, 1, 2, 3] bcast_S3x128x1x25_S3x128x25x25_0_1_2_3 main_v74
  let main_v76 : FVec F S3x128x25x25 .f32 := subf main_v73 main_v75
  let main_values : FVec F S3x128x25x6 .f32 := (fun x => (Host.topK S3x128x25x6 3 (FloatOps.cmpfTotal .gt) x sliceFits_S3x128x25x25_S3x128x25x6).1) main_v76
  let main_indices : IVec S3x128x25x6 32 := (fun x => (Host.topK S3x128x25x6 3 (FloatOps.cmpfTotal .gt) x sliceFits_S3x128x25x25_S3x128x25x6).2) main_v76
  let main_v77 : FVec F S3x128x25x5 .f32 := (extractStridedSlice S3x128x25x5 ![0, 0, 0, 0] · slices_S3x128x25x6_S3x128x25x5_0_0_0_0) main_values
  let main_v78 : FVec F S3x128x25x5 .f32 := (extractStridedSlice S3x128x25x5 ![0, 0, 0, 1] · slices_S3x128x25x6_S3x128x25x5_0_0_0_1) main_values
  let main_v79 : IVec S3x128x25x5 1 := cmpf .ogt main_v77 main_v78
  (main_v2, main_v5, main_v8, main_v11, main_v14, main_v17, main_v20, main_v23, main_v26, main_v29, main_v32, main_v35, main_v38, main_v41, main_v44, main_v79)

def fn_part3 {F : FTy → Type} [FloatOps F] (main_arg5 : FVec F S3x16 .f32) (main_v2 : IVec S128x64x64x25 1) (main_v5 : IVec S3x3x25x25 1) (main_v8 : IVec S3x16x64 1) (main_v11 : IVec S3x16 1) (main_v14 : IVec S3x16 1) (main_v17 : IVec S3x16 1) (main_v20 : IVec S3x3x16x16 1) (main_v23 : IVec S3x3x16 1) (main_v26 : IVec S3x3x16 1) (main_v29 : IVec S3x3x16 1) (main_v32 : IVec S3x16x32 1) (main_v35 : IVec S3x16 1) (main_v38 : IVec S3x16 1) (main_v41 : IVec S64 1) (main_v44 : IVec S64 1) (main_v53 : FVec F S3x128x16x64x25 .f32) (main_v55 : FVec F S3x128x16x64x25 .f32) : IVec S128x64x64x25 1 × IVec S3x3x25x25 1 × IVec S3x16x64 1 × IVec S3x16 1 × IVec S3x16 1 × IVec S3x16 1 × IVec S3x3x16x16 1 × IVec S3x3x16 1 × IVec S3x3x16 1 × IVec S3x3x16 1 × IVec S3x16x32 1 × IVec S3x16 1 × IVec S3x16 1 × IVec S64 1 × IVec S64 1 × IVec S3x128x25x5 1 :=
  let main_v56 : FVec F S3x128x16x64x25 .f32 := mulf main_v53 main_v55
  let main_v57 : FVec F S3x1x16x1x1 .f32 := broadcastInDim S3x1x16x1x1 ![0, 2] bcast_S3x16_S3x1x16x1x1_0_2 main_arg5
  let main_v58 : FVec F S3x128x16x64x25 .f32 := broadcastInDim S3x128x16x64x25 ![0, 1, 2, 3, 4] bcast_S3x1x16x1x1_S3x128x16x64x25_0_1_2_3_4 main_v57
  let main_v59 : FVec F S3x128x16x64x25 .f32 := addf main_v56 main_v58
  let main_cst_15 : FVec F S_ .f32 := constant S_ .f32 0x00000000#32
  let main_v60 : FVec F S3x128x16x64x25 .f32 := broadcastInDim S3x128x16x64x25 ![] bcast_S_S3x128x16x64x25 main_cst_15
  let main_v61 : FVec F S3x128x16x64x25 .f32 := maximumf main_v59 main_v60
  let main_cst_16 : FVec F S_ .f32 := constant S_ .f32 0x00000000#32
  let main_v62 : FVec F S3x128x16x25 .f32 := (fun x v => Host.reduceAdd x v reducesTo_S3x128x16x64x25_S3x128x16x25_d3 h_S_) main_v61 main_cst_16
  let main_cst_17 : FVec F S_ .f32 := constant S_ .f32 0x42800000#32
  let main_v63 : FVec F S3x128x16x25 .f32 := broadcastInDim S3x128x16x25 ![] bcast_S_S3x128x16x25 main_cst_17
  let main_v64 : FVec F S3x128x16x25 .f32 := Host.divf main_v62 main_v63
  let main_v65 : FVec F S3x128x25x25 .f32 := (fun l r => Host.dotGeneral dot_S3x128x16x25_S3x128x16x25_S3x128x25x25_2_2_3_3_01_01 none l r) main_v64 main_v64
  let main_cst_18 : FVec F S_ .f32 := constant S_ .f32 0xC0000000#32
  let main_v66 : FVec F S3x128x25x25 .f32 := broadcastInDim S3x128x25x25 ![] bcast_S_S3x128x25x25 main_cst_18
  let main_v67 : FVec F S3x128x25x25 .f32 := mulf main_v66 main_v65
  let main_v68 : FVec F S3x128x16x25 .f32 := mulf main_v64 main_v64
  let main_cst_19 : FVec F S_ .f32 := constant S_ .f32 0x00000000#32
  let main_v69 : FVec F S3x128x25 .f32 := (fun x v => Host.reduceAdd x v reducesTo_S3x128x16x25_S3x128x25_d2 h_S_) main_v68 main_cst_19
  let main_v70 : FVec F S3x128x25x1 .f32 := broadcastInDim S3x128x25x1 ![0, 1, 2] bcast_S3x128x25_S3x128x25x1_0_1_2 main_v69
  let main_v71 : FVec F S3x128x25x1 .f32 := Host.negf main_v70
  let main_v72 : FVec F S3x128x25x25 .f32 := broadcastInDim S3x128x25x25 ![0, 1, 2, 3] bcast_S3x128x25x1_S3x128x25x25_0_1_2_3 main_v71
  let main_v73 : FVec F S3x128x25x25 .f32 := subf main_v72 main_v67
  let main_v74 : FVec F S3x128x1x25 .f32 := broadcastInDim S3x128x1x25 ![0, 1, 3] bcast_S3x128x25_S3x128x1x25_0_1_3 main_v69
  fn_part4 (F := F) main_v2 main_v5 main_v8 main_v11 main_v14 main_v17 main_v20 main_v23 main_v26 main_v29 main_v32 main_v35 main_v38 main_v41 main_v44 main_v73 main_v74

def fn_part2 {F : FTy → Type} [FloatOps F] (main_arg0 : FVec F S128x64x64x25 .f32) (main_arg2 : FVec F S3x16x64 .f32) (main_arg3 : FVec F S3x16 .f32) (main_arg4 : FVec F S3x16 .f32) (main_arg5 : FVec F S3x16 .f32) (main_arg12 : FVec F S3x16 .f32) (main_arg13 : FVec F S64 .f32) (main_arg14 : FVec F S64 .f32) (main_v2 : IVec S128x64x64x25 1) (main_v5 : IVec S3x3x25x25 1) (main_v8 : IVec S3x16x64 1) (main_v11 : IVec S3x16 1) (main_v14 : IVec S3x16 1) (main_v17 : IVec S3x16 1) (main_v20 : IVec S3x3x16x16 1) (main_v23 : IVec S3x3x16 1) (main_v26 : IVec S3x3x16 1) (main_v29 : IVec S3x3x16 1) (main_v32 : IVec S3x16x32 1) (main_v35 : IVec S3x16 1) : IVec S128x64x64x25 1 × IVec S3x3x25x25 1 × IVec S3x16x64 1 × IVec S3x16 1 × IVec S3x16 1 × IVec S3x16 1 × IVec S3x3x16x16 1 × IVec S3x3x16 1 × IVec S3x3x16 1 × IVec S3x3x16 1 × IVec S3x16x32 1 × IVec S3x16 1 × IVec S3x16 1 × IVec S64 1 × IVec S64 1 × IVec S3x128x25x5 1 :=
  let main_v36 : FVec F S3x16 .f32 := Host.absf main_arg12
  let main_cst_11 : FVec F S_ .f32 := constant S_ .f32 0x7F800000#32
  let main_v37 : FVec F S3x16 .f32 := broadcastInDim S3x16 ![] bcast_S_S3x16 main_cst_11
  let main_v38 : IVec S3x16 1 := cmpf .olt main_v36 main_v37
  let main_v39 : FVec F S64 .f32 := Host.absf main_arg13
  let main_cst_12 : FVec F S_ .f32 := constant S_ .f32 0x7F800000#32
  let main_v40 : FVec F S64 .f32 := broadcastInDim S64 ![] bcast_S_S64 main_cst_12
  let main_v41 : IVec S64 1 := cmpf .olt main_v39 main_v40
  let main_v42 : FVec F S64 .f32 := Host.absf main_arg14
  let main_cst_13 : FVec F S_ .f32 := constant S_ .f32 0x7F800000#32
  let main_v43 : FVec F S64 .f32 := broadcastInDim S64 ![] bcast_S_S64 main_cst_13
  let main_v44 : IVec S64 1 := cmpf .olt main_v42 main_v43
  let main_v45 : FVec F S3x16x128x64x25 .f32 := (fun l r => Host.dotGeneral dot_S3x16x64_S128x64x64x25_S3x16x128x64x25_2_1_01_023_n_n none l r) main_arg2 main_arg0
  let main_v46 : FVec F S3x128x16x64x25 .f32 := (transpose S3x128x16x64x25 [0, 2, 1, 3, 4] · transposes_S3x16x128x64x25_S3x128x16x64x25_0_2_1_3_4) main_v45
  let main_v47 : FVec F S3x1x16x1x1 .f32 := broadcastInDim S3x1x16x1x1 ![0, 2] bcast_S3x16_S3x1x16x1x1_0_2 main_arg3
  let main_v48 : FVec F S3x128x16x64x25 .f32 := broadcastInDim S3x128x16x64x25 ![0, 1, 2, 3, 4] bcast_S3x1x16x1x1_S3x128x16x64x25_0_1_2_3_4 main_v47
  let main_v49 : FVec F S3x128x16x64x25 .f32 := addf main_v46 main_v48
  let main_cst_14 : FVec F S_ .f32 := constant S_ .f32 0x3F800054#32
  let main_v50 : FVec F S_ .f32 := Host.sqrt main_cst_14
  let main_v51 : FVec F S_ .f32 := id main_v50
  let main_v52 : FVec F S3x128x16x64x25 .f32 := broadcastInDim S3x128x16x64x25 ![] bcast_S_S3x128x16x64x25 main_v51
  let main_v53 : FVec F S3x128x16x64x25 .f32 := Host.divf main_v49 main_v52
  let main_v54 : FVec F S3x1x16x1x1 .f32 := broadcastInDim S3x1x16x1x1 ![0, 2] bcast_S3x16_S3x1x16x1x1_0_2 main_arg4
  let main_v55 : FVec F S3x128x16x64x25 .f32 := broadcastInDim S3x128x16x64x25 ![0, 1, 2, 3, 4] bcast_S3x1x16x1x1_S3x128x16x64x25_0_1_2_3_4 main_v54
  fn_part3 (F := F) main_arg5 main_v2 main_v5 main_v8 main_v11 main_v14 main_v17 main_v20 main_v23 main_v26 main_v29 main_v32 main_v35 main_v38 main_v41 main_v44 main_v53 main_v55

def fn_part1 {F : FTy → Type} [FloatOps F] (main_arg0 : FVec F S128x64x64x25 .f32) (main_arg2 : FVec F S3x16x64 .f32) (main_arg3 : FVec F S3x16 .f32) (main_arg4 : FVec F S3x16 .f32) (main_arg5 : FVec F S3x16 .f32) (main_arg6 : FVec F S3x3x16x16 .f32) (main_arg7 : FVec F S3x3x16 .f32) (main_arg8 : FVec F S3x3x16 .f32) (main_arg9 : FVec F S3x3x16 .f32) (main_arg10 : FVec F S3x16x32 .f32) (main_arg11 : FVec F S3x16 .f32) (main_arg12 : FVec F S3x16 .f32) (main_arg13 : FVec F S64 .f32) (main_arg14 : FVec F S64 .f32) (main_v2 : IVec S128x64x64x25 1) (main_v5 : IVec S3x3x25x25 1) (main_v8 : IVec S3x16x64 1) (main_v11 : IVec S3x16 1) (main_v14 : IVec S3x16 1) (main_v17 : IVec S3x16 1) : IVec S128x64x64x25 1 × IVec S3x3x25x25 1 × IVec S3x16x64 1 × IVec S3x16 1 × IVec S3x16 1 × IVec S3x16 1 × IVec S3x3x16x16 1 × IVec S3x3x16 1 × IVec S3x3x16 1 × IVec S3x3x16 1 × IVec S3x16x32 1 × IVec S3x16 1 × IVec S3x16 1 × IVec S64 1 × IVec S64 1 × IVec S3x128x25x5 1 :=
  let main_v18 : FVec F S3x3x16x16 .f32 := Host.absf main_arg6
  let main_cst_5 : FVec F S_ .f32 := constant S_ .f32 0x7F800000#32
  let main_v19 : FVec F S3x3x16x16 .f32 := broadcastInDim S3x3x16x16 ![] bcast_S_S3x3x16x16 main_cst_5
  let main_v20 : IVec S3x3x16x16 1 := cmpf .olt main_v18 main_v19
  let main_v21 : FVec F S3x3x16 .f32 := Host.absf main_arg7
  let main_cst_6 : FVec F S_ .f32 := constant S_ .f32 0x7F800000#32
  let main_v22 : FVec F S3x3x16 .f32 := broadcastInDim S3x3x16 ![] bcast_S_S3x3x16 main_cst_6
  let main_v23 : IVec S3x3x16 1 := cmpf .olt main_v21 main_v22
  let main_v24 : FVec F S3x3x16 .f32 := Host.absf main_arg8
  let main_cst_7 : FVec F S_ .f32 := constant S_ .f32 0x7F800000#32
  let main_v25 : FVec F S3x3x16 .f32 := broadcastInDim S3x3x16 ![] bcast_S_S3x3x16 main_cst_7
  let main_v26 : IVec S3x3x16 1 := cmpf .olt main_v24 main_v25
  let main_v27 : FVec F S3x3x16 .f32 := Host.absf main_arg9
  let main_cst_8 : FVec F S_ .f32 := constant S_ .f32 0x7F800000#32
  let main_v28 : FVec F S3x3x16 .f32 := broadcastInDim S3x3x16 ![] bcast_S_S3x3x16 main_cst_8
  let main_v29 : IVec S3x3x16 1 := cmpf .olt main_v27 main_v28
  let main_v30 : FVec F S3x16x32 .f32 := Host.absf main_arg10
  let main_cst_9 : FVec F S_ .f32 := constant S_ .f32 0x7F800000#32
  let main_v31 : FVec F S3x16x32 .f32 := broadcastInDim S3x16x32 ![] bcast_S_S3x16x32 main_cst_9
  let main_v32 : IVec S3x16x32 1 := cmpf .olt main_v30 main_v31
  let main_v33 : FVec F S3x16 .f32 := Host.absf main_arg11
  let main_cst_10 : FVec F S_ .f32 := constant S_ .f32 0x7F800000#32
  let main_v34 : FVec F S3x16 .f32 := broadcastInDim S3x16 ![] bcast_S_S3x16 main_cst_10
  let main_v35 : IVec S3x16 1 := cmpf .olt main_v33 main_v34
  fn_part2 (F := F) main_arg0 main_arg2 main_arg3 main_arg4 main_arg5 main_arg12 main_arg13 main_arg14 main_v2 main_v5 main_v8 main_v11 main_v14 main_v17 main_v20 main_v23 main_v26 main_v29 main_v32 main_v35

def fn {F : FTy → Type} [FloatOps F] (main_arg0 : FVec F S128x64x64x25 .f32) (main_arg1 : FVec F S3x3x25x25 .f32) (main_arg2 : FVec F S3x16x64 .f32) (main_arg3 : FVec F S3x16 .f32) (main_arg4 : FVec F S3x16 .f32) (main_arg5 : FVec F S3x16 .f32) (main_arg6 : FVec F S3x3x16x16 .f32) (main_arg7 : FVec F S3x3x16 .f32) (main_arg8 : FVec F S3x3x16 .f32) (main_arg9 : FVec F S3x3x16 .f32) (main_arg10 : FVec F S3x16x32 .f32) (main_arg11 : FVec F S3x16 .f32) (main_arg12 : FVec F S3x16 .f32) (main_arg13 : FVec F S64 .f32) (main_arg14 : FVec F S64 .f32) : IVec S128x64x64x25 1 × IVec S3x3x25x25 1 × IVec S3x16x64 1 × IVec S3x16 1 × IVec S3x16 1 × IVec S3x16 1 × IVec S3x3x16x16 1 × IVec S3x3x16 1 × IVec S3x3x16 1 × IVec S3x3x16 1 × IVec S3x16x32 1 × IVec S3x16 1 × IVec S3x16 1 × IVec S64 1 × IVec S64 1 × IVec S3x128x25x5 1 :=
  let main_v0 : FVec F S128x64x64x25 .f32 := Host.absf main_arg0
  let main_cst : FVec F S_ .f32 := constant S_ .f32 0x7F800000#32
  let main_v1 : FVec F S128x64x64x25 .f32 := broadcastInDim S128x64x64x25 ![] bcast_S_S128x64x64x25 main_cst
  let main_v2 : IVec S128x64x64x25 1 := cmpf .olt main_v0 main_v1
  let main_v3 : FVec F S3x3x25x25 .f32 := Host.absf main_arg1
  let main_cst_0 : FVec F S_ .f32 := constant S_ .f32 0x7F800000#32
  let main_v4 : FVec F S3x3x25x25 .f32 := broadcastInDim S3x3x25x25 ![] bcast_S_S3x3x25x25 main_cst_0
  let main_v5 : IVec S3x3x25x25 1 := cmpf .olt main_v3 main_v4
  let main_v6 : FVec F S3x16x64 .f32 := Host.absf main_arg2
  let main_cst_1 : FVec F S_ .f32 := constant S_ .f32 0x7F800000#32
  let main_v7 : FVec F S3x16x64 .f32 := broadcastInDim S3x16x64 ![] bcast_S_S3x16x64 main_cst_1
  let main_v8 : IVec S3x16x64 1 := cmpf .olt main_v6 main_v7
  let main_v9 : FVec F S3x16 .f32 := Host.absf main_arg3
  let main_cst_2 : FVec F S_ .f32 := constant S_ .f32 0x7F800000#32
  let main_v10 : FVec F S3x16 .f32 := broadcastInDim S3x16 ![] bcast_S_S3x16 main_cst_2
  let main_v11 : IVec S3x16 1 := cmpf .olt main_v9 main_v10
  let main_v12 : FVec F S3x16 .f32 := Host.absf main_arg4
  let main_cst_3 : FVec F S_ .f32 := constant S_ .f32 0x7F800000#32
  let main_v13 : FVec F S3x16 .f32 := broadcastInDim S3x16 ![] bcast_S_S3x16 main_cst_3
  let main_v14 : IVec S3x16 1 := cmpf .olt main_v12 main_v13
  let main_v15 : FVec F S3x16 .f32 := Host.absf main_arg5
  let main_cst_4 : FVec F S_ .f32 := constant S_ .f32 0x7F800000#32
  let main_v16 : FVec F S3x16 .f32 := broadcastInDim S3x16 ![] bcast_S_S3x16 main_cst_4
  let main_v17 : IVec S3x16 1 := cmpf .olt main_v15 main_v16
  fn_part1 (F := F) main_arg0 main_arg2 main_arg3 main_arg4 main_arg5 main_arg6 main_arg7 main_arg8 main_arg9 main_arg10 main_arg11 main_arg12 main_arg13 main_arg14 main_v2 main_v5 main_v8 main_v11 main_v14 main_v17
-- ==== Kernel.lean ====
abbrev S128x64x64x25 : Shape := ⟨4, ![128, 64, 64, 25]⟩
abbrev S3x3x25x25 : Shape := ⟨4, ![3, 3, 25, 25]⟩
abbrev S3x16x64 : Shape := ⟨3, ![3, 16, 64]⟩
abbrev S3x16 : Shape := ⟨2, ![3, 16]⟩
abbrev S3x3x16x16 : Shape := ⟨4, ![3, 3, 16, 16]⟩
abbrev S3x3x16 : Shape := ⟨3, ![3, 3, 16]⟩
abbrev S3x16x32 : Shape := ⟨3, ![3, 16, 32]⟩
abbrev S64 : Shape := ⟨1, ![64]⟩
abbrev S128x64x1600 : Shape := ⟨3, ![128, 64, 1600]⟩
abbrev S128x4096x25 : Shape := ⟨3, ![128, 4096, 25]⟩
abbrev S_ : Shape := ⟨0, ![]⟩
abbrev S3x16x1 : Shape := ⟨3, ![3, 16, 1]⟩
abbrev S48x64 : Shape := ⟨2, ![48, 64]⟩
abbrev S64x48 : Shape := ⟨2, ![64, 48]⟩
abbrev S1x48 : Shape := ⟨2, ![1, 48]⟩
abbrev S3x25x3x25 : Shape := ⟨4, ![3, 25, 3, 25]⟩
abbrev S3x25x75 : Shape := ⟨3, ![3, 25, 75]⟩
abbrev S3x3x16x1 : Shape := ⟨4, ![3, 3, 16, 1]⟩
abbrev S48 : Shape := ⟨1, ![48]⟩
abbrev S1x3x16x1 : Shape := ⟨4, ![1, 3, 16, 1]⟩
abbrev S8x8 : Shape := ⟨2, ![8, 8]⟩
abbrev S1x1x1x8x8x1 : Shape := ⟨6, ![1, 1, 1, 8, 8, 1]⟩
abbrev S3x3x16x1x1x16 : Shape := ⟨6, ![3, 3, 16, 1, 1, 16]⟩
abbrev S3x3x16x8x8x16 : Shape := ⟨6, ![3, 3, 16, 8, 8, 16]⟩
abbrev S3x3x128x128 : Shape := ⟨4, ![3, 3, 128, 128]⟩
abbrev S16x16 : Shape := ⟨2, ![16, 16]⟩
abbrev S1x16x1x16 : Shape := ⟨4, ![1, 16, 1, 16]⟩
abbrev S1x16x64x16 : Shape := ⟨4, ![1, 16, 64, 16]⟩
abbrev S16x1024 : Shape := ⟨2, ![16, 1024]⟩
abbrev S3x16x16 : Shape := ⟨3, ![3, 16, 16]⟩
abbrev S16 : Shape := ⟨1, ![16]⟩
abbrev S16x1 : Shape := ⟨2, ![16, 1]⟩
abbrev S64x1x1 : Shape := ⟨3, ![64, 1, 1]⟩
abbrev S4x64x1600 : Shape := ⟨3, ![4, 64, 1600]⟩
abbrev S4x4096x25 : Shape := ⟨3, ![4, 4096, 25]⟩
abbrev S1x64x1600 : Shape := ⟨3, ![1, 64, 1600]⟩
abbrev S64x1600 : Shape := ⟨2, ![64, 1600]⟩
abbrev S1600x64 : Shape := ⟨2, ![1600, 64]⟩
abbrev S1600x48 : Shape := ⟨2, ![1600, 48]⟩
abbrev S64x25x48 : Shape := ⟨3, ![64, 25, 48]⟩
abbrev S64x48x25 : Shape := ⟨3, ![64, 48, 25]⟩
abbrev S64x16x25 : Shape := ⟨3, ![64, 16, 25]⟩
abbrev S1024x25 : Shape := ⟨2, ![1024, 25]⟩
abbrev S16x25 : Shape := ⟨2, ![16, 25]⟩
abbrev S1x25x75 : Shape := ⟨3, ![1, 25, 75]⟩
abbrev S25x75 : Shape := ⟨2, ![25, 75]⟩
abbrev S1024x75 : Shape := ⟨2, ![1024, 75]⟩
abbrev S128x25 : Shape := ⟨2, ![128, 25]⟩
abbrev S1x1x128x128 : Shape := ⟨4, ![1, 1, 128, 128]⟩
abbrev S128x128 : Shape := ⟨2, ![128, 128]⟩
abbrev S16x1x8x25 : Shape := ⟨4, ![16, 1, 8, 25]⟩
abbrev S16x8x8x25 : Shape := ⟨4, ![16, 8, 8, 25]⟩
abbrev S25 : Shape := ⟨1, ![25]⟩
abbrev S25x25 : Shape := ⟨2, ![25, 25]⟩
abbrev S25x1 : Shape := ⟨2, ![25, 1]⟩
abbrev S1x25 : Shape := ⟨2, ![1, 25]⟩
abbrev S1x16x16 : Shape := ⟨3, ![1, 16, 16]⟩
abbrev S1x16x1 : Shape := ⟨3, ![1, 16, 1]⟩
abbrev S16x1x25 : Shape := ⟨3, ![16, 1, 25]⟩
abbrev S16x64x25 : Shape := ⟨3, ![16, 64, 25]⟩
abbrev S64x64x25 : Shape := ⟨3, ![64, 64, 25]⟩
abbrev S1x4096x25 : Shape := ⟨3, ![1, 4096, 25]⟩
abbrev S4096x25 : Shape := ⟨2, ![4096, 25]⟩

abbrev nBuf : Space → Nat
  | .hbm => 107
  | .vmem => 16
  | .smem => 0
  | _ => 0

abbrev bufTy : (tb : Table) → Fin (tcTables nBuf tb) → BufTy
  | .hbm, ⟨0, _⟩ => ⟨S128x64x64x25, .f32⟩
  | .hbm, ⟨1, _⟩ => ⟨S3x3x25x25, .f32⟩
  | .hbm, ⟨2, _⟩ => ⟨S3x16x64, .f32⟩
  | .hbm, ⟨3, _⟩ => ⟨S3x16, .f32⟩
  | .hbm, ⟨4, _⟩ => ⟨S3x16, .f32⟩
  | .hbm, ⟨5, _⟩ => ⟨S3x16, .f32⟩
  | .hbm, ⟨6, _⟩ => ⟨S3x3x16x16, .f32⟩
  | .hbm, ⟨7, _⟩ => ⟨S3x3x16, .f32⟩
  | .hbm, ⟨8, _⟩ => ⟨S3x3x16, .f32⟩
  | .hbm, ⟨9, _⟩ => ⟨S3x3x16, .f32⟩
  | .hbm, ⟨10, _⟩ => ⟨S3x16x32, .f32⟩
  | .hbm, ⟨11, _⟩ => ⟨S3x16, .f32⟩
  | .hbm, ⟨12, _⟩ => ⟨S3x16, .f32⟩
  | .hbm, ⟨13, _⟩ => ⟨S64, .f32⟩
  | .hbm, ⟨14, _⟩ => ⟨S64, .f32⟩
  | .hbm, ⟨15, _⟩ => ⟨S128x64x1600, .f32⟩
  | .hbm, ⟨16, _⟩ => ⟨S128x4096x25, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S3x16, .f32⟩
  | .hbm, ⟨23, _⟩ => ⟨S3x16, .f32⟩
  | .hbm, ⟨24, _⟩ => ⟨S3x16x1, .f32⟩
  | .hbm, ⟨25, _⟩ => ⟨S3x16x64, .f32⟩
  | .hbm, ⟨26, _⟩ => ⟨S3x16x64, .f32⟩
  | .hbm, ⟨27, _⟩ => ⟨S48x64, .f32⟩
  | .hbm, ⟨28, _⟩ => ⟨S64x48, .f32⟩
  | .hbm, ⟨29, _⟩ => ⟨S3x16, .f32⟩
  | .hbm, ⟨30, _⟩ => ⟨S3x16, .f32⟩
  | .hbm, ⟨31, _⟩ => ⟨S1x48, .f32⟩
  | .hbm, ⟨32, _⟩ => ⟨S3x25x3x25, .f32⟩
  | .hbm, ⟨33, _⟩ => ⟨S3x25x75, .f32⟩
  | .hbm, ⟨34, _⟩ => ⟨S_, .f32⟩
  | .hbm, ⟨35, _⟩ => ⟨S3x3x16, .f32⟩
  | .hbm, ⟨36, _⟩ => ⟨S3x3x16, .f32⟩
  | .hbm, ⟨37, _⟩ => ⟨S3x3x16x1, .f32⟩
  | .hbm, ⟨38, _⟩ => ⟨S3x3x16x16, .f32⟩
  | .hbm, ⟨39, _⟩ => ⟨S3x3x16x16, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S48, .f32⟩
  | .hbm, ⟨44, _⟩ => ⟨S3x16, .f32⟩
  | .hbm, ⟨45, _⟩ => ⟨S1x3x16x1, .f32⟩
  | .hbm, ⟨46, _⟩ => ⟨S3x3x16x16, .f32⟩
  | .hbm, ⟨47, _⟩ => ⟨S3x3x16x16, .f32⟩
  | .hbm, ⟨48, _⟩ => ⟨S8x8, .i32⟩
  | .hbm, ⟨49, _⟩ => ⟨S8x8, .i32⟩
  | .hbm, ⟨50, _⟩ => ⟨S_, .i32⟩
  | .hbm, ⟨51, _⟩ => ⟨S8x8, .i32⟩
  | .hbm, ⟨52, _⟩ => ⟨S8x8, .i32⟩
  | .hbm, ⟨53, _⟩ => ⟨S8x8, .i1⟩
  | .hbm, ⟨54, _⟩ => ⟨S8x8, .f32⟩
  | .hbm, ⟨55, _⟩ => ⟨S1x1x1x8x8x1, .f32⟩
  | .hbm, ⟨56, _⟩ => ⟨S3x3x16x1x1x16, .f32⟩
  | .hbm, ⟨57, _⟩ => ⟨S3x3x16x8x8x16, .f32⟩
  | .hbm, ⟨58, _⟩ => ⟨S3x3x16x8x8x16, .f32⟩
  | .hbm, ⟨59, _⟩ => ⟨S3x3x16x8x8x16, .f32⟩
  | .hbm, ⟨60, _⟩ => ⟨S3x3x128x128, .f32⟩
  | .hbm, ⟨61, _⟩ => ⟨S16x16, .i32⟩
  | .hbm, ⟨62, _⟩ => ⟨S16x16, .i32⟩
  | .hbm, ⟨63, _⟩ => ⟨S_, .i32⟩
  | .hbm, ⟨64, _⟩ => ⟨S16x16, .i32⟩
  | .hbm, ⟨65, _⟩ => ⟨S16x16, .i32⟩
  | .hbm, ⟨66, _⟩ => ⟨S16x16, .i1⟩
  | .hbm, ⟨67, _⟩ => ⟨S16x16, .f32⟩
  | .hbm, ⟨68, _⟩ => ⟨S_, .f32⟩
  | .hbm, ⟨69, _⟩ => ⟨S16x16, .f32⟩
  | .hbm, ⟨70, _⟩ => ⟨S16x16, .f32⟩
  | .hbm, ⟨71, _⟩ => ⟨S1x16x1x16, .f32⟩
  | .hbm, ⟨72, _⟩ => ⟨S1x16x64x16, .f32⟩
  | .hbm, ⟨73, _⟩ => ⟨S16x1024, .f32⟩
  | .hbm, ⟨74, _⟩ => ⟨S_, .f32⟩
  | .hbm, ⟨75, _⟩ => ⟨S3x16, .f32⟩
  | .hbm, ⟨76, _⟩ => ⟨S3x16, .f32⟩
  | .hbm, ⟨77, _⟩ => ⟨S3x16x16, .f32⟩
  | .hbm, ⟨78, _⟩ => ⟨S3x16x16, .f32⟩
  | .hbm, ⟨79, _⟩ => ⟨S3x16x1, .f32⟩
  | .hbm, ⟨80, _⟩ => ⟨S3x16x16, .f32⟩
  | .hbm, ⟨81, _⟩ => ⟨S3x16x16, .f32⟩
  | .hbm, ⟨82, _⟩ => ⟨S3x16x16, .f32⟩
  | .hbm, ⟨83, _⟩ => ⟨S3x16x1, .f32⟩
  | .hbm, ⟨84, _⟩ => ⟨S3x16x16, .f32⟩
  | .hbm, ⟨85, _⟩ => ⟨S3x16x16, .f32⟩
  | .hbm, ⟨86, _⟩ => ⟨S3x16x1, .f32⟩
  | .hbm, ⟨87, _⟩ => ⟨S_, .f32⟩
  | .hbm, ⟨88, _⟩ => ⟨S64, .f32⟩
  | .hbm, ⟨89, _⟩ => ⟨S64, .f32⟩
  | .hbm, ⟨90, _⟩ => ⟨S16, .f32⟩
  | .hbm, ⟨91, _⟩ => ⟨S16x1, .f32⟩
  | .hbm, ⟨92, _⟩ => ⟨S3x3x16, .f32⟩
  | .hbm, ⟨93, _⟩ => ⟨S3x3x16, .f32⟩
  | .hbm, ⟨94, _⟩ => ⟨S_, .f32⟩
  | .hbm, ⟨95, _⟩ => ⟨S3x16, .f32⟩
  | .hbm, ⟨96, _⟩ => ⟨S48, .f32⟩
  | .hbm, ⟨97, _⟩ => ⟨S_, .f32⟩
  | .hbm, ⟨98, _⟩ => ⟨S16, .f32⟩
  | .hbm, ⟨99, _⟩ => ⟨S64, .f32⟩
  | .hbm, ⟨100, _⟩ => ⟨S_, .f32⟩
  | .hbm, ⟨101, _⟩ => ⟨S64, .f32⟩
  | .hbm, ⟨102, _⟩ => ⟨S64, .f32⟩
  | .hbm, ⟨103, _⟩ => ⟨S64, .f32⟩
  | .hbm, ⟨104, _⟩ => ⟨S64, .f32⟩
  | .hbm, ⟨105, _⟩ => ⟨S64x1x1, .f32⟩
  | .hbm, ⟨106, _⟩ => ⟨S128x4096x25, .f32⟩
  | .local _ .vmem, ⟨0, _⟩ => ⟨S4x64x1600, .f32⟩
  | .local _ .vmem, ⟨1, _⟩ => ⟨S4x64x1600, .f32⟩
  | .local _ .vmem, ⟨2, _⟩ => ⟨S4x4096x25, .f32⟩
  | .local _ .vmem, ⟨3, _⟩ => ⟨S4x4096x25, .f32⟩
  | .local _ .vmem, ⟨4, _⟩ => ⟨S64x48, .f32⟩
  | .local _ .vmem, ⟨5, _⟩ => ⟨S1x48, .f32⟩
  | .local _ .vmem, ⟨6, _⟩ => ⟨S3x25x75, .f32⟩
  | .local _ .vmem, ⟨7, _⟩ => ⟨S3x3x128x128, .f32⟩
  | .local _ .vmem, ⟨8, _⟩ => ⟨S16x1024, .f32⟩
  | .local _ .vmem, ⟨9, _⟩ => ⟨S3x16x16, .f32⟩
  | .local _ .vmem, ⟨10, _⟩ => ⟨S3x16x16, .f32⟩
  | .local _ .vmem, ⟨11, _⟩ => ⟨S3x16x1, .f32⟩
  | .local _ .vmem, ⟨12, _⟩ => ⟨S16x1, .f32⟩
  | .local _ .vmem, ⟨13, _⟩ => ⟨S64x1x1, .f32⟩
  | .local _ .vmem, ⟨14, _⟩ => ⟨S4x4096x25, .f32⟩
  | .local _ .vmem, ⟨15, _⟩ => ⟨S4x4096x25, .f32⟩
  | _, _ => ⟨S128x64x64x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_cst_0 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_v23 : Ref sig .tc := ⟨.hbm, 40, rfl⟩
abbrev main_call0_v24 : Ref sig .tc := ⟨.hbm, 41, rfl⟩
abbrev main_call0_v25 : Ref sig .tc := ⟨.hbm, 42, rfl⟩
abbrev main_call0_v26 : Ref sig .tc := ⟨.hbm, 43, rfl⟩
abbrev main_call0_v27 : Ref sig .tc := ⟨.hbm, 44, rfl⟩
abbrev main_call0_v28 : Ref sig .tc := ⟨.hbm, 45, rfl⟩
abbrev main_call0_v29 : Ref sig .tc := ⟨.hbm, 46, rfl⟩
abbrev main_call0_v30 : Ref sig .tc := ⟨.hbm, 47, rfl⟩
abbrev main_call0_v31 : Ref sig .tc := ⟨.hbm, 48, rfl⟩
abbrev main_call0_v32 : Ref sig .tc := ⟨.hbm, 49, rfl⟩
abbrev main_call0_c : Ref sig .tc := ⟨.hbm, 50, rfl⟩
abbrev main_call0_v33 : Ref sig .tc := ⟨.hbm, 51, rfl⟩
abbrev main_call0_v34 : Ref sig .tc := ⟨.hbm, 52, rfl⟩
abbrev main_call0_v35 : Ref sig .tc := ⟨.hbm, 53, rfl⟩
abbrev main_call0_v36 : Ref sig .tc := ⟨.hbm, 54, rfl⟩
abbrev main_call0_v37 : Ref sig .tc := ⟨.hbm, 55, rfl⟩
abbrev main_call0_v38 : Ref sig .tc := ⟨.hbm, 56, rfl⟩
abbrev main_call0_v39 : Ref sig .tc := ⟨.hbm, 57, rfl⟩
abbrev main_call0_v40 : Ref sig .tc := ⟨.hbm, 58, rfl⟩
abbrev main_call0_v41 : Ref sig .tc := ⟨.hbm, 59, rfl⟩
abbrev main_call0_v42 : Ref sig .tc := ⟨.hbm, 60, rfl⟩
abbrev main_call0_v43 : Ref sig .tc := ⟨.hbm, 61, rfl⟩
abbrev main_call0_v44 : Ref sig .tc := ⟨.hbm, 62, rfl⟩
abbrev main_call0_c_1 : Ref sig .tc := ⟨.hbm, 63, rfl⟩
abbrev main_call0_v45 : Ref sig .tc := ⟨.hbm, 64, rfl⟩
abbrev main_call0_v46 : Ref sig .tc := ⟨.hbm, 65, rfl⟩
abbrev main_call0_v47 : Ref sig .tc := ⟨.hbm, 66, rfl⟩
abbrev main_call0_v48 : Ref sig .tc := ⟨.hbm, 67, rfl⟩
abbrev main_call0_cst_2 : Ref sig .tc := ⟨.hbm, 68, rfl⟩
abbrev main_call0_v49 : Ref sig .tc := ⟨.hbm, 69, rfl⟩
abbrev main_call0_v50 : Ref sig .tc := ⟨.hbm, 70, rfl⟩
abbrev main_call0_v51 : Ref sig .tc := ⟨.hbm, 71, rfl⟩
abbrev main_call0_v52 : Ref sig .tc := ⟨.hbm, 72, rfl⟩
abbrev main_call0_v53 : Ref sig .tc := ⟨.hbm, 73, rfl⟩
abbrev main_call0_v54 : Ref sig .tc := ⟨.hbm, 74, rfl⟩
abbrev main_call0_v55 : Ref sig .tc := ⟨.hbm, 75, rfl⟩
abbrev main_call0_v56 : Ref sig .tc := ⟨.hbm, 76, rfl⟩
abbrev main_call0_v57 : Ref sig .tc := ⟨.hbm, 77, rfl⟩
abbrev main_call0_v58 : Ref sig .tc := ⟨.hbm, 78, rfl⟩
abbrev main_call0_v59 : Ref sig .tc := ⟨.hbm, 79, rfl⟩
abbrev main_call0_v60 : Ref sig .tc := ⟨.hbm, 80, rfl⟩
abbrev main_call0_v61 : Ref sig .tc := ⟨.hbm, 81, rfl⟩
abbrev main_call0_v62 : Ref sig .tc := ⟨.hbm, 82, rfl⟩
abbrev main_call0_v63 : Ref sig .tc := ⟨.hbm, 83, rfl⟩
abbrev main_call0_v64 : Ref sig .tc := ⟨.hbm, 84, rfl⟩
abbrev main_call0_v65 : Ref sig .tc := ⟨.hbm, 85, rfl⟩
abbrev main_call0_v66 : Ref sig .tc := ⟨.hbm, 86, rfl⟩
abbrev main_call0_v67 : Ref sig .tc := ⟨.hbm, 87, rfl⟩
abbrev main_call0_v68 : Ref sig .tc := ⟨.hbm, 88, rfl⟩
abbrev main_call0_v69 : Ref sig .tc := ⟨.hbm, 89, rfl⟩
abbrev main_call0_v70 : Ref sig .tc := ⟨.hbm, 90, rfl⟩
abbrev main_call0_v71 : Ref sig .tc := ⟨.hbm, 91, rfl⟩
abbrev main_call0_v72 : Ref sig .tc := ⟨.hbm, 92, rfl⟩
abbrev main_call0_v73 : Ref sig .tc := ⟨.hbm, 93, rfl⟩
abbrev main_call0_cst_3 : Ref sig .tc := ⟨.hbm, 94, rfl⟩
abbrev main_call0_v74 : Ref sig .tc := ⟨.hbm, 95, rfl⟩
abbrev main_call0_v75 : Ref sig .tc := ⟨.hbm, 96, rfl⟩
abbrev main_call0_cst_4 : Ref sig .tc := ⟨.hbm, 97, rfl⟩
abbrev main_call0_v76 : Ref sig .tc := ⟨.hbm, 98, rfl⟩
abbrev main_call0_v77 : Ref sig .tc := ⟨.hbm, 99, rfl⟩
abbrev main_call0_v78 : Ref sig .tc := ⟨.hbm, 100, rfl⟩
abbrev main_call0_v79 : Ref sig .tc := ⟨.hbm, 101, rfl⟩
abbrev main_call0_v80 : Ref sig .tc := ⟨.hbm, 102, rfl⟩
abbrev main_call0_v81 : Ref sig .tc := ⟨.hbm, 103, rfl⟩
abbrev main_call0_v82 : Ref sig .tc := ⟨.hbm, 104, rfl⟩
abbrev main_call0_v83 : Ref sig .tc := ⟨.hbm, 105, rfl⟩
abbrev main_v0 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4096x25 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x25x75 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x3x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x16x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x16x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4x4096x25 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S128x64x64x25 : Shape := ⟨4, ![128, 64, 64, 25]⟩
abbrev S3x3x25x25 : Shape := ⟨4, ![3, 3, 25, 25]⟩
abbrev S3x16x64 : Shape := ⟨3, ![3, 16, 64]⟩
abbrev S3x16 : Shape := ⟨2, ![3, 16]⟩
abbrev S3x3x16x16 : Shape := ⟨4, ![3, 3, 16, 16]⟩
abbrev S3x3x16 : Shape := ⟨3, ![3, 3, 16]⟩
abbrev S3x16x32 : Shape := ⟨3, ![3, 16, 32]⟩
abbrev S64 : Shape := ⟨1, ![64]⟩
abbrev S3x16x128x64x25 : Shape := ⟨5, ![3, 16, 128, 64, 25]⟩
abbrev S3x128x16x64x25 : Shape := ⟨5, ![3, 128, 16, 64, 25]⟩
abbrev S3x1x16x1x1 : Shape := ⟨5, ![3, 1, 16, 1, 1]⟩
abbrev S_ : Shape := ⟨0, ![]⟩
abbrev S3x3x25x128x16x64 : Shape := ⟨6, ![3, 3, 25, 128, 16, 64]⟩
abbrev S3x3x128x16x64x25 : Shape := ⟨6, ![3, 3, 128, 16, 64, 25]⟩
abbrev S3x3x16x128x64x25 : Shape := ⟨6, ![3, 3, 16, 128, 64, 25]⟩
abbrev S3x3x1x16x1x1 : Shape := ⟨6, ![3, 3, 1, 16, 1, 1]⟩
abbrev S128x3x16x64x25 : Shape := ⟨5, ![128, 3, 16, 64, 25]⟩
abbrev S128x48x64x25 : Shape := ⟨4, ![128, 48, 64, 25]⟩
abbrev S3x128x16x25 : Shape := ⟨4, ![3, 128, 16, 25]⟩
abbrev S3x128x25x25 : Shape := ⟨4, ![3, 128, 25, 25]⟩
abbrev S3x128x25 : Shape := ⟨3, ![3, 128, 25]⟩
abbrev S3x128x25x1 : Shape := ⟨4, ![3, 128, 25, 1]⟩
abbrev S3x128x1x25 : Shape := ⟨4, ![3, 128, 1, 25]⟩
abbrev S3x128x25x5 : Shape := ⟨4, ![3, 128, 25, 5]⟩
abbrev S3x128x25x16 : Shape := ⟨4, ![3, 128, 25, 16]⟩
abbrev S3x128x25x5x1 : Shape := ⟨5, ![3, 128, 25, 5, 1]⟩
abbrev S3x128x25x5x16 : Shape := ⟨5, ![3, 128, 25, 5, 16]⟩
abbrev S3x128x25x1x16 : Shape := ⟨5, ![3, 128, 25, 1, 16]⟩
abbrev S3x128x25x5x32 : Shape := ⟨5, ![3, 128, 25, 5, 32]⟩
abbrev S3x16x128x25x5 : Shape := ⟨5, ![3, 16, 128, 25, 5]⟩
abbrev S3x128x16x25x5 : Shape := ⟨5, ![3, 128, 16, 25, 5]⟩
abbrev S128x16x25 : Shape := ⟨3, ![128, 16, 25]⟩
abbrev S128x16x1x25 : Shape := ⟨4, ![128, 16, 1, 25]⟩
abbrev S128x16x64x25 : Shape := ⟨4, ![128, 16, 64, 25]⟩
abbrev S1x64x1x1 : Shape := ⟨4, ![1, 64, 1, 1]⟩
abbrev S128x4096x25 : Shape := ⟨3, ![128, 4096, 25]⟩

abbrev nBuf : Space → Nat
  | .hbm => 134
  | .vmem => 0
  | .smem => 0
  | _ => 0

abbrev hbmTy0_0 (i : Nat) : BufTy := match i % 128 with
  | 0 => ⟨S128x64x64x25, .f32⟩
  | 1 => ⟨S3x3x25x25, .f32⟩
  | 2 => ⟨S3x16x64, .f32⟩
  | 3 => ⟨S3x16, .f32⟩
  | 4 => ⟨S3x16, .f32⟩
  | 5 => ⟨S3x16, .f32⟩
  | 6 => ⟨S3x3x16x16, .f32⟩
  | 7 => ⟨S3x3x16, .f32⟩
  | 8 => ⟨S3x3x16, .f32⟩
  | 9 => ⟨S3x3x16, .f32⟩
  | 10 => ⟨S3x16x32, .f32⟩
  | 11 => ⟨S3x16, .f32⟩
  | 12 => ⟨S3x16, .f32⟩
  | 13 => ⟨S64, .f32⟩
  | 14 => ⟨S64, .f32⟩
  | 15 => ⟨S3x16x128x64x25, .f32⟩
  | 16 => ⟨S3x128x16x64x25, .f32⟩
  | 17 => ⟨S3x1x16x1x1, .f32⟩
  | 18 => ⟨S3x128x16x64x25, .f32⟩
  | 19 => ⟨S3x128x16x64x25, .f32⟩
  | 20 => ⟨S_, .f32⟩
  | 21 => ⟨S_, .f32⟩
  | 22 => ⟨S_, .f32⟩
  | 23 => ⟨S3x128x16x64x25, .f32⟩
  | 24 => ⟨S3x128x16x64x25, .f32⟩
  | 25 => ⟨S3x1x16x1x1, .f32⟩
  | 26 => ⟨S3x128x16x64x25, .f32⟩
  | 27 => ⟨S3x128x16x64x25, .f32⟩
  | 28 => ⟨S3x1x16x1x1, .f32⟩
  | 29 => ⟨S3x128x16x64x25, .f32⟩
  | 30 => ⟨S3x128x16x64x25, .f32⟩
  | 31 => ⟨S_, .f32⟩
  | 32 => ⟨S3x128x16x64x25, .f32⟩
  | 33 => ⟨S3x128x16x64x25, .f32⟩
  | 34 => ⟨S3x3x25x128x16x64, .f32⟩
  | 35 => ⟨S3x3x128x16x64x25, .f32⟩
  | 36 => ⟨S3x3x16x128x64x25, .f32⟩
  | 37 => ⟨S3x3x128x16x64x25, .f32⟩
  | 38 => ⟨S3x3x1x16x1x1, .f32⟩
  | 39 => ⟨S3x3x128x16x64x25, .f32⟩
  | 40 => ⟨S3x3x128x16x64x25, .f32⟩
  | 41 => ⟨S_, .f32⟩
  | 42 => ⟨S_, .f32⟩
  | 43 => ⟨S_, .f32⟩
  | 44 => ⟨S3x3x128x16x64x25, .f32⟩
  | 45 => ⟨S3x3x128x16x64x25, .f32⟩
  | 46 => ⟨S3x3x1x16x1x1, .f32⟩
  | 47 => ⟨S3x3x128x16x64x25, .f32⟩
  | 48 => ⟨S3x3x128x16x64x25, .f32⟩
  | 49 => ⟨S3x3x1x16x1x1, .f32⟩
  | 50 => ⟨S3x3x128x16x64x25, .f32⟩
  | 51 => ⟨S3x3x128x16x64x25, .f32⟩
  | 52 => ⟨S_, .f32⟩
  | 53 => ⟨S3x128x16x64x25, .f32⟩
  | 54 => ⟨S128x3x16x64x25, .f32⟩
  | 55 => ⟨S128x48x64x25, .f32⟩
  | 56 => ⟨S_, .f32⟩
  | 57 => ⟨S3x128x16x25, .f32⟩
  | 58 => ⟨S_, .f32⟩
  | 59 => ⟨S3x128x16x25, .f32⟩
  | 60 => ⟨S3x128x16x25, .f32⟩
  | 61 => ⟨S3x128x25x25, .f32⟩
  | 62 => ⟨S_, .f32⟩
  | 63 => ⟨S3x128x25x25, .f32⟩
  | 64 => ⟨S3x128x25x25, .f32⟩
  | 65 => ⟨S3x128x16x25, .f32⟩
  | 66 => ⟨S_, .f32⟩
  | 67 => ⟨S3x128x25, .f32⟩
  | 68 => ⟨S3x128x25x1, .f32⟩
  | 69 => ⟨S3x128x25x1, .f32⟩
  | 70 => ⟨S3x128x25x25, .f32⟩
  | 71 => ⟨S3x128x25x25, .f32⟩
  | 72 => ⟨S3x128x1x25, .f32⟩
  | 73 => ⟨S3x128x25x25, .f32⟩
  | 74 => ⟨S3x128x25x25, .f32⟩
  | 75 => ⟨S3x128x25x5, .f32⟩
  | 76 => ⟨S3x128x25x5, .i32⟩
  | 77 => ⟨S3x128x25x16, .f32⟩
  | 78 => ⟨S_, .i32⟩
  | 79 => ⟨S3x128x25x5, .i32⟩
  | 80 => ⟨S3x128x25x5, .i1⟩
  | 81 => ⟨S_, .i32⟩
  | 82 => ⟨S3x128x25x5, .i32⟩
  | 83 => ⟨S3x128x25x5, .i32⟩
  | 84 => ⟨S3x128x25x5, .i32⟩
  | 85 => ⟨S3x128x25x5x1, .i32⟩
  | 86 => ⟨S3x128x25x5x16, .f32⟩
  | 87 => ⟨S3x128x25x1x16, .f32⟩
  | 88 => ⟨S3x128x25x5x16, .f32⟩
  | 89 => ⟨S3x128x25x5x16, .f32⟩
  | 90 => ⟨S3x128x25x5x32, .f32⟩
  | 91 => ⟨S3x16x128x25x5, .f32⟩
  | 92 => ⟨S3x128x16x25x5, .f32⟩
  | 93 => ⟨S_, .f32⟩
  | 94 => ⟨S_, .f32⟩
  | 95 => ⟨S_, .f32⟩
  | 96 => ⟨S3x128x16x25x5, .f32⟩
  | 97 => ⟨S3x128x16x25x5, .f32⟩
  | 98 => ⟨S3x1x16x1x1, .f32⟩
  | 99 => ⟨S3x128x16x25x5, .f32⟩
  | 100 => ⟨S3x128x16x25x5, .f32⟩
  | 101 => ⟨S3x1x16x1x1, .f32⟩
  | 102 => ⟨S3x128x16x25x5, .f32⟩
  | 103 => ⟨S3x128x16x25x5, .f32⟩
  | 104 => ⟨S_, .f32⟩
  | 105 => ⟨S3x128x16x25x5, .f32⟩
  | 106 => ⟨S3x128x16x25x5, .i1⟩
  | 107 => ⟨S_, .f32⟩
  | 108 => ⟨S3x128x16x25x5, .f32⟩
  | 109 => ⟨S3x128x16x25x5, .f32⟩
  | 110 => ⟨S3x128x16x25x5, .f32⟩
  | 111 => ⟨S_, .f32⟩
  | 112 => ⟨S3x128x16x25, .f32⟩
  | 113 => ⟨S_, .f32⟩
  | 114 => ⟨S128x16x25, .f32⟩
  | 115 => ⟨S128x16x1x25, .f32⟩
  | 116 => ⟨S128x16x64x25, .f32⟩
  | 117 => ⟨S128x64x64x25, .f32⟩
  | 118 => ⟨S_, .f32⟩
  | 119 => ⟨S_, .f32⟩
  | 120 => ⟨S_, .f32⟩
  | 121 => ⟨S128x64x64x25, .f32⟩
  | 122 => ⟨S128x64x64x25, .f32⟩
  | 123 => ⟨S1x64x1x1, .f32⟩
  | 124 => ⟨S128x64x64x25, .f32⟩
  | 125 => ⟨S128x64x64x25, .f32⟩
  | 126 => ⟨S1x64x1x1, .f32⟩
  | 127 => ⟨S128x64x64x25, .f32⟩
  | _ => ⟨S128x64x64x25, .f32⟩

abbrev hbmTy0_1 (i : Nat) : BufTy := match i % 128 with
  | 0 => ⟨S128x64x64x25, .f32⟩
  | 1 => ⟨S128x64x64x25, .f32⟩
  | 2 => ⟨S_, .f32⟩
  | 3 => ⟨S128x64x64x25, .f32⟩
  | 4 => ⟨S128x64x64x25, .f32⟩
  | 5 => ⟨S128x4096x25, .f32⟩
  | _ => ⟨S128x64x64x25, .f32⟩

abbrev hbmTy (i : Nat) : BufTy := match i / 128 with
  | 0 => hbmTy0_0 i
  | 1 => hbmTy0_1 i
  | _ => ⟨S128x64x64x25, .f32⟩

abbrev bufTy : (tb : Table) → Fin (tcTables nBuf tb) → BufTy
  | .hbm, ⟨i, _⟩ => hbmTy i
  | _, _ => ⟨S128x64x64x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_2 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_values : Ref sig .tc := ⟨.hbm, 75, rfl⟩
abbrev main_indices : Ref sig .tc := ⟨.hbm, 76, rfl⟩
abbrev main_v52 : Ref sig .tc := ⟨.hbm, 77, rfl⟩
abbrev main_c : Ref sig .tc := ⟨.hbm, 78, rfl⟩
abbrev main_v53 : Ref sig .tc := ⟨.hbm, 79, rfl⟩
abbrev main_v54 : Ref sig .tc := ⟨.hbm, 80, rfl⟩
abbrev main_c_7 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_8 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_9 : Ref sig .tc := ⟨.hbm, 104, rfl⟩
abbrev main_v76 : Ref sig .tc := ⟨.hbm, 105, rfl⟩
abbrev main_v77 : Ref sig .tc := ⟨.hbm, 106, rfl⟩
abbrev main_cst_10 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_11 : Ref sig .tc := ⟨.hbm, 111, rfl⟩
abbrev main_v81 : Ref sig .tc := ⟨.hbm, 112, rfl⟩
abbrev main_cst_12 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_13 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_14 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩

abbrev nD : Nat := 1
abbrev τ : Topo := Topo.v7x

variable {F : FTy → Type} [FloatOps F]
-- ==== Proof.Select.lean ====
/- Choosing the five greatest of 25 numbers by striking maxima: no program appears here. -/
module

public import Idealize.ShloMosaic.Lib.ValueIdx

@[expose] public section

noncomputable section

namespace Cert.Select

/-- One round: every entry equal to the greatest becomes `-∞`. -/
def strike (s : Fin 25 → EReal) : Fin 25 → EReal :=
  fun u => if s u = Finset.univ.sup s then ⊥ else s u

/-- The leaky rectifier with slope `c` on the negatives. -/
def leaky (c y : ℝ) : ℝ := if 0 < y then y else c * y

/-- For a slope between 0 and 1 the leaky rectifier is monotone. -/
theorem leaky_mono {c : ℝ} (h0 : 0 ≤ c) (h1 : c ≤ 1) : Monotone (leaky c) := by
  intro a b hab
  unfold leaky
  split_ifs with ha hb hb
  · exact hab
  · linarith
  · nlinarith
  · exact mul_le_mul_of_nonneg_left hab h0

/-- The greatest of finitely many reals, read among the extended reals. -/
theorem sup_coe {n : ℕ} [NeZero n] (g : Fin n → ℝ) :
    Finset.univ.sup (fun k => ((g k : ℝ) : EReal))
      = ((Finset.univ.sup' Finset.univ_nonempty g : ℝ) : EReal) := by
  rw [← Finset.sup'_eq_sup Finset.univ_nonempty]
  exact (Finset.comp_sup'_eq_sup'_comp (f := g) Finset.univ_nonempty (fun r : ℝ => (r : EReal))
    (fun x y => by exact (EReal.coe_strictMono.monotone.map_max))).symm

/-- A monotone function of a greatest element is the greatest of the function's values. -/
theorem mono_sup' {n : ℕ} [NeZero n] {F : ℝ → ℝ} (hF : Monotone F) (g : Fin n → ℝ) :
    F (Finset.univ.sup' Finset.univ_nonempty g) = Finset.univ.sup' Finset.univ_nonempty (fun k => F (g k)) :=
  Finset.comp_sup'_eq_sup'_comp (f := g) Finset.univ_nonempty F (fun _ _ => hF.map_max)

/-- `σ` lists `f` from the greatest down, and no tie reaches into the first five. -/
structure Ranks (f : Fin 25 → ℝ) (σ : Equiv.Perm (Fin 25)) : Prop where
  anti : ∀ i j : Fin 25, i ≤ j → f (σ j) ≤ f (σ i)
  strict : ∀ i j : Fin 25, i.val < 5 → i < j → f (σ j) < f (σ i)

variable {f : Fin 25 → ℝ} {σ : Equiv.Perm (Fin 25)}

/-- A shift of all numbers leaves the ranking. -/
theorem Ranks.shift (h : Ranks f σ) (g : Fin 25 → ℝ) (a : ℝ) (hg : ∀ u, g u = f u + a) : Ranks g σ where
  anti i j hij := by rw [hg, hg]; linarith [h.anti i j hij]
  strict i j hi hij := by rw [hg, hg]; linarith [h.strict i j hi hij]

/-- What is left after `k` rounds. -/
def left (f : Fin 25 → ℝ) (σ : Equiv.Perm (Fin 25)) (k : ℕ) : Fin 25 → EReal :=
  fun u => if (σ.symm u).val < k then ⊥ else (f u : EReal)

/-- Before the first round all numbers are left. -/
theorem left_zero : left f σ 0 = fun u => ((f u : ℝ) : EReal) := by funext u; simp [left]

/-- The greatest of what is left after `k` rounds is the number of rank `k`. -/
theorem sup_left (h : Ranks f σ) (k : Fin 25) : Finset.univ.sup (left f σ k.val) = ((f (σ k) : ℝ) : EReal) := by
  apply le_antisymm
  · refine Finset.sup_le fun u _ => ?_
    unfold left
    split_ifs with hu
    · exact bot_le
    · have := h.anti k (σ.symm u) (by rw [Fin.le_def]; omega)
      rw [Equiv.apply_symm_apply] at this
      exact EReal.coe_le_coe_iff.mpr this
  · refine le_trans (le_of_eq ?_) (Finset.le_sup (Finset.mem_univ (σ k)))
    simp [left]

/-- One round strikes the number of rank `k` and no other. -/
theorem strike_left (h : Ranks f σ) (k : Fin 25) (hk : k.val < 5) : strike (left f σ k.val) = left f σ (k.val + 1) := by
  funext u
  unfold strike
  rw [sup_left h k]
  rcases lt_trichotomy (σ.symm u).val k.val with hu | hu | hu
  · have : left f σ k.val u = ⊥ := by simp [left, hu]
    rw [this]
    simp [left, Nat.lt_succ_of_lt hu]
  · have e : u = σ k := by rw [← Fin.ext hu, Equiv.apply_symm_apply]
    subst e
    simp [left]
  · have hlt := h.strict k (σ.symm u) hk (by rw [Fin.lt_def]; exact hu)
    rw [Equiv.apply_symm_apply] at hlt
    have e : left f σ k.val u = ((f u : ℝ) : EReal) := by simp [left, not_lt.mpr hu.le]
    have e' : left f σ (k.val + 1) u = ((f u : ℝ) : EReal) := by
      simp only [left]; rw [if_neg (by omega)]
    rw [e, e', if_neg (fun hh => absurd (EReal.coe_eq_coe_iff.mp hh) hlt.ne)]

/-- After four rounds the numbers of rank 4 and more are left. -/
theorem strike_four (h : Ranks f σ) :
    strike (strike (strike (strike fun u => ((f u : ℝ) : EReal)))) = left f σ 4 := by
  rw [← left_zero (f := f) (σ := σ)]
  have h0 := strike_left h 0 (by decide)
  have h1 := strike_left h 1 (by decide)
  have h2 := strike_left h 2 (by decide)
  have h3 := strike_left h 3 (by decide)
  simp only [Fin.val_zero, Fin.val_one, Fin.val_two, Nat.zero_add, Nat.reduceAdd] at h0 h1 h2
  change strike (left f σ 3) = left f σ 4 at h3
  rw [h0, h1, h2, h3]

/-- A number reaches the greatest of what four rounds leave exactly when its rank is below five. -/
theorem reaches_iff (h : Ranks f σ) (u : Fin 25) :
    Finset.univ.sup (strike (strike (strike (strike fun u => ((f u : ℝ) : EReal))))) ≤ ((f u : ℝ) : EReal)
      ↔ (σ.symm u).val < 5 := by
  rw [strike_four h]
  have hs : Finset.univ.sup (left f σ 4) = ((f (σ 4) : ℝ) : EReal) := sup_left h 4
  rw [hs, EReal.coe_le_coe_iff]
  constructor
  · intro hle
    by_contra hn
    have := h.strict 4 (σ.symm u) (by decide) (by rw [Fin.lt_def]; exact (by omega : 4 < (σ.symm u).val))
    rw [Equiv.apply_symm_apply] at this
    linarith
  · intro hu
    have := h.anti (σ.symm u) 4 (by rw [Fin.le_def]; exact (by omega : (σ.symm u).val ≤ 4))
    rwa [Equiv.apply_symm_apply] at this

/-- The five positions of least rank. -/
def five (σ : Equiv.Perm (Fin 25)) (k : Fin 5) : Fin 25 := σ (k.castLE (by decide))

/-- The greatest of `a` over the chosen five, by a mask over all 25. -/
theorem sup_masked (σ : Equiv.Perm (Fin 25)) (a : Fin 25 → ℝ) :
    Finset.univ.sup (fun u => if (σ.symm u).val < 5 then ((a u : ℝ) : EReal) else ⊥)
      = ((Finset.univ.sup' Finset.univ_nonempty (fun k : Fin 5 => a (five σ k)) : ℝ) : EReal) := by
  rw [← sup_coe]
  apply le_antisymm
  · refine Finset.sup_le fun u _ => ?_
    split_ifs with hu
    · have e : five σ ⟨(σ.symm u).val, hu⟩ = u := by
        have : ((⟨(σ.symm u).val, hu⟩ : Fin 5).castLE (by decide : 5 ≤ 25)) = σ.symm u := rfl
        rw [five, this, Equiv.apply_symm_apply]
      conv_lhs => rw [← e]
      exact Finset.le_sup (f := fun k : Fin 5 => ((a (five σ k) : ℝ) : EReal)) (Finset.mem_univ _)
    · exact bot_le
  · refine Finset.sup_le fun k _ => ?_
    refine le_trans (le_of_eq ?_) (Finset.le_sup (Finset.mem_univ (five σ k)))
    have : (σ.symm (five σ k)).val < 5 := by
      rw [five, Equiv.symm_apply_apply]; exact k.isLt
    rw [if_pos this]

end Cert.Select

end
-- ==== Proof.Index.lean ====
/- Positions by coordinates, sums of reals read among the extended reals, and products of matrices of reals. -/
module

public import Idealize.ShloMosaic.Lib.MatmulPlain
public import Idealize.ShloMosaic.Lib.Pipeline.Value
public import Idealize.ShloMosaic.Lib.ValueIdx

@[expose] public section

noncomputable section

namespace Cert.Index

open Idealize.ShloMosaic Idealize.ShloMosaic.ValueIdx

/-- The row-major position of a one-axis index. -/
theorem rm1 {n0 : ℕ} (a : Fin n0) : ((⟨1, ![n0]⟩ : Shape).rowMajor (ix1 a)).val = a.val := by
  show (Shape.rowMajorPi ![n0] (ix1 a)).val = _
  rw [Shape.rowMajorPi_succ_val]
  have := (Shape.rowMajorPi (fun a => ![n0] (Fin.succ a)) (fun b => ix1 a b.succ)).isLt
  simp at this ⊢
  exact this

/-- The row-major position of a two-axis index. -/
theorem rm2 {n0 n1 : ℕ} (a : Fin n0) (b : Fin n1) : ((⟨2, ![n0, n1]⟩ : Shape).rowMajor (ix2 a b)).val = a.val * n1 + b.val := by
  show (Shape.rowMajorPi ![n0, n1] (ix2 a b)).val = _
  rw [Shape.rowMajorPi_succ_val]
  have h := rm1 b
  change (Shape.rowMajorPi ![n1] (ix1 b)).val = _ at h
  refine congrArg₂ (· + ·) ?_ (Eq.trans ?_ h)
  · simp
  · congr 1

/-- The row-major position of a three-axis index. -/
theorem rm3 {n0 n1 n2 : ℕ} (a : Fin n0) (b : Fin n1) (c : Fin n2) :
    ((⟨3, ![n0, n1, n2]⟩ : Shape).rowMajor (ix3 a b c)).val = a.val * (n1 * n2) + (b.val * n2 + c.val) := by
  show (Shape.rowMajorPi ![n0, n1, n2] (ix3 a b c)).val = _
  rw [Shape.rowMajorPi_succ_val]
  refine congrArg₂ (· + ·) ?_ (rm2 b c)
  simp [Fin.prod_univ_succ]

/-- The row-major position of a four-axis index. -/
theorem rm4 {n0 n1 n2 n3 : ℕ} (a : Fin n0) (b : Fin n1) (c : Fin n2) (d : Fin n3) :
    ((⟨4, ![n0, n1, n2, n3]⟩ : Shape).rowMajor (ix4 a b c d)).val
      = a.val * (n1 * (n2 * n3)) + (b.val * (n2 * n3) + (c.val * n3 + d.val)) := by
  show (Shape.rowMajorPi ![n0, n1, n2, n3] (ix4 a b c d)).val = _
  rw [Shape.rowMajorPi_succ_val]
  refine congrArg₂ (· + ·) ?_ (rm3 b c d)
  simp [Fin.prod_univ_succ]

/-- The row-major position of a five-axis index. -/
theorem rm5 {n0 n1 n2 n3 n4 : ℕ} (a : Fin n0) (b : Fin n1) (c : Fin n2) (d : Fin n3) (e : Fin n4) :
    ((⟨5, ![n0, n1, n2, n3, n4]⟩ : Shape).rowMajor (ix5 a b c d e)).val
      = a.val * (n1 * (n2 * (n3 * n4))) + (b.val * (n2 * (n3 * n4)) + (c.val * (n3 * n4) + (d.val * n4 + e.val))) := by
  show (Shape.rowMajorPi ![n0, n1, n2, n3, n4] (ix5 a b c d e)).val = _
  rw [Shape.rowMajorPi_succ_val]
  refine congrArg₂ (· + ·) ?_ (rm4 b c d e)
  simp [Fin.prod_univ_succ]

/-- A sum of reals, read among the extended reals. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- The greater of two reals, read among the extended reals. -/
theorem coe_max (a b : ℝ) : ((max a b : ℝ) : EReal) = max (a : EReal) (b : EReal) :=
  EReal.coe_strictMono.monotone.map_max

/-- A sum of products of extended reals that are reals. -/
theorem sum_mul_coe {K : ℕ} (f g : Fin K → EReal) (L R : Fin K → ℝ) (hl : ∀ k, f k = ((L k : ℝ) : EReal))
    (hr : ∀ k, g k = ((R k : ℝ) : EReal)) : ∑ k, f k * g k = ((∑ k, L k * R k : ℝ) : EReal) := by
  rw [coe_sum]
  exact Finset.sum_congr rfl fun k _ => by rw [hl, hr, EReal.coe_mul]

/-- A matrix product into zero, of rows and columns that are reals. -/
theorem mm {M K N : ℕ} {φ₁ φ₂ : FTy} (lhs : FVec Ideal ⟨2, ![M, K]⟩ φ₁) (rhs : FVec Ideal ⟨2, ![K, N]⟩ φ₂) (i : Fin M) (j : Fin N)
    (L R : Fin K → ℝ) (hl : ∀ k, lhs (ix2 i k) = ((L k : ℝ) : EReal)) (hr : ∀ k, rhs (ix2 k j) = ((R k : ℝ) : EReal)) :
    matmul (DotDims.plain M K N) none lhs rhs (constant ⟨2, ![M, N]⟩ .f32 0x00000000#32) (ix2 i j)
      = ((∑ k, L k * R k : ℝ) : EReal) := by
  refine (Ideal.matmul_plain_apply none lhs rhs (constant ⟨2, ![M, N]⟩ .f32 0x00000000#32) i j).trans ?_
  have h0 : constant (F := Ideal) ⟨2, ![M, N]⟩ .f32 0x00000000#32 (ix2 i j) = (0 : EReal) := Ideal.ofBits_zero_f32
  rw [h0, zero_add]
  exact sum_mul_coe (fun k => lhs (ix2 i k)) (fun k => rhs (ix2 k j)) L R hl hr

/-- The position of frame `t` and vertex `v` among frames and vertices. -/
def tv (t : Fin 64) (v : Fin 25) : Fin 1600 := ⟨25 * t.val + v.val, by omega⟩
/-- The position of frame `t` and channel `c` of a layer. -/
def tc (t : Fin 64) (c : Fin 16) : Fin 1024 := ⟨16 * t.val + c.val, by omega⟩
/-- The position of channel `o` of a block and frame `t`. -/
def ot (o : Fin 16) (t : Fin 64) : Fin 1024 := ⟨64 * o.val + t.val, by omega⟩
/-- The position of output channel `c` and frame `t`. -/
def ct (c t : Fin 64) : Fin 4096 := ⟨64 * c.val + t.val, by omega⟩
/-- Channel `o` of layer `i` among the 48. -/
def lo (i : Fin 3) (o : Fin 16) : Fin 48 := ⟨16 * i.val + o.val, by omega⟩
/-- Vertex `v` of matrix `j`. -/
def jv (j : Fin 3) (v : Fin 25) : Fin 75 := ⟨25 * j.val + v.val, by omega⟩
/-- Channel `o` of block `j` among the 64. -/
def jo (j : Fin 4) (o : Fin 16) : Fin 64 := ⟨16 * j.val + o.val, by omega⟩
/-- Channel `o` and frame `a` of eight. -/
def oa (o : Fin 16) (a : Fin 8) : Fin 128 := ⟨8 * o.val + a.val, by omega⟩
/-- Frame `a` of eight and channel `c`. -/
def ac (a : Fin 8) (c : Fin 16) : Fin 128 := ⟨16 * a.val + c.val, by omega⟩
/-- Frame `a` of the eight numbered `b`. -/
def ba (b a : Fin 8) : Fin 64 := ⟨8 * b.val + a.val, by omega⟩

/-- A sum over frames and channels, frame by frame. -/
theorem sum_tc {M : Type*} [AddCommMonoid M] (f : Fin 1024 → M) : ∑ r, f r = ∑ t, ∑ c, f (tc t c) := by
  rw [← (finProdFinEquiv (m := 64) (n := 16)).sum_comp f, Fintype.sum_prod_type]
  refine Finset.sum_congr rfl fun t _ => Finset.sum_congr rfl fun c _ => congrArg f (Fin.ext ?_)
  simp [tc, finProdFinEquiv]; omega

/-- A sum over eight frames and channels, frame by frame. -/
theorem sum_ac {M : Type*} [AddCommMonoid M] (f : Fin 128 → M) : ∑ r, f r = ∑ a, ∑ c, f (ac a c) := by
  rw [← (finProdFinEquiv (m := 8) (n := 16)).sum_comp f, Fintype.sum_prod_type]
  refine Finset.sum_congr rfl fun t _ => Finset.sum_congr rfl fun c _ => congrArg f (Fin.ext ?_)
  simp [ac, finProdFinEquiv]; omega

/-- Every position is that of a frame and a channel. -/
theorem tc_surj (r : Fin 1024) : ∃ t c, r = tc t c :=
  ⟨⟨r.val / 16, by omega⟩, ⟨r.val % 16, by omega⟩, Fin.ext (by simp only [tc]; omega)⟩

/-- Every position is that of a frame of eight and a channel. -/
theorem ac_surj (r : Fin 128) : ∃ a c, r = ac a c :=
  ⟨⟨r.val / 16, by omega⟩, ⟨r.val % 16, by omega⟩, Fin.ext (by simp only [ac]; omega)⟩

end Cert.Index

end
-- ==== Proof.Spec.lean ====
/- The unit over the reals, as the reference writes it. -/
module

public import proofs.«01_k».proof.Proof.Select
public import proofs.«01_k».proof.Proof.Index
public import Mathlib.Analysis.SpecialFunctions.Pow.NNReal

@[expose] public section

noncomputable section

namespace Cert.Spec

open Cert.Index

/-- The fifteen arguments, real. -/
structure Args where
  x : Fin 128 → Fin 64 → Fin 64 → Fin 25 → ℝ
  pa : Fin 3 → Fin 3 → Fin 25 → Fin 25 → ℝ
  wd : Fin 3 → Fin 16 → Fin 64 → ℝ
  bd : Fin 3 → Fin 16 → ℝ
  gd : Fin 3 → Fin 16 → ℝ
  ed : Fin 3 → Fin 16 → ℝ
  ws : Fin 3 → Fin 3 → Fin 16 → Fin 16 → ℝ
  bs : Fin 3 → Fin 3 → Fin 16 → ℝ
  gs : Fin 3 → Fin 3 → Fin 16 → ℝ
  es : Fin 3 → Fin 3 → Fin 16 → ℝ
  we : Fin 3 → Fin 16 → Fin 32 → ℝ
  ge : Fin 3 → Fin 16 → ℝ
  ee : Fin 3 → Fin 16 → ℝ
  gb : Fin 64 → ℝ
  bb : Fin 64 → ℝ

/-- The square root every batch norm divides by: of the float nearest 1.00001. -/
def root : ℝ := Real.sqrt (2097173 / 2097152)

/-- The root is positive. -/
theorem root_pos : 0 < root := Real.sqrt_pos.mpr (by norm_num)

/-- The root is not zero. -/
theorem root_ne : root ≠ 0 := root_pos.ne'

/-- The leaky rectifier's slope: the float nearest 0.2. -/
def slope : ℝ := 13421773 / 67108864

variable (A : Args)

/-- The first convolution with its batch norm, rectified. -/
def down (l : Fin 3) (n : Fin 128) (o : Fin 16) (t : Fin 64) (v : Fin 25) : ℝ :=
  max (((∑ c, A.wd l o c * A.x n c t v) + A.bd l o) / root * A.gd l o + A.ed l o) 0

/-- Its mean over the frames. -/
def mean (l : Fin 3) (n : Fin 128) (o : Fin 16) (v : Fin 25) : ℝ := (∑ t, down A l n o t v) / 64

/-- A vertex's squared length. -/
def len (l : Fin 3) (n : Fin 128) (v : Fin 25) : ℝ := ∑ o, mean A l n o v * mean A l n o v

/-- Minus the squared distance of two vertices. -/
def score (l : Fin 3) (n : Fin 128) (v u : Fin 25) : ℝ :=
  -len A l n v - -2 * (∑ o, mean A l n o v * mean A l n o u) - len A l n u

/-- One layer's and one subset's convolution with its batch norm. -/
def sub (l j : Fin 3) (n : Fin 128) (o : Fin 16) (t : Fin 64) (v : Fin 25) : ℝ :=
  ((∑ c, A.ws l j o c * ∑ u, A.pa l j v u * down A l n c t u) + A.bs l j o) / root * A.gs l j o + A.es l j o

/-- The edge feature of a vertex `v` and a neighbour `u`: the difference, then the vertex itself. -/
def feature (l : Fin 3) (n : Fin 128) (v u : Fin 25) (k : Fin 32) : ℝ :=
  if h : k.val < 16 then mean A l n ⟨k.val, h⟩ u - mean A l n ⟨k.val, h⟩ v else mean A l n ⟨k.val - 16, by omega⟩ v

/-- The edge convolution of a vertex and a neighbour with its batch norm. -/
def conv (l : Fin 3) (n : Fin 128) (o : Fin 16) (v u : Fin 25) : ℝ :=
  (∑ k, A.we l o k * feature A l n v u k) / root * A.ge l o + A.ee l o

/-- The greatest over a vertex's five neighbours. -/
def edge (σ : Equiv.Perm (Fin 25)) (l : Fin 3) (n : Fin 128) (o : Fin 16) (v : Fin 25) : ℝ :=
  Finset.univ.sup' Finset.univ_nonempty (fun k : Fin 5 => Select.leaky slope (conv A l n o v (Select.five σ k)))

/-- The channels side by side: three subsets', then the edges'. -/
def cat (σ : Fin 3 → Equiv.Perm (Fin 25)) (n : Fin 128) (o : Fin 16) (t : Fin 64) (v : Fin 25) (j : Fin 4) : ℝ :=
  if h : j.val < 3 then ∑ l, sub A l ⟨j.val, h⟩ n o t v else ∑ l, edge A (σ l) l n o v

/-- The output. -/
def out (σ : Fin 3 → Equiv.Perm (Fin 25)) (n : Fin 128) (j : Fin 4) (o : Fin 16) (t : Fin 64) (v : Fin 25) : ℝ :=
  max (cat A σ n o t v j / root * A.gb (jo j o) + A.bb (jo j o) + A.x n (jo j o) t v) 0

end Cert.Spec

end
-- ==== Proof.RefDown.lean ====
/- The reference's first convolution, mean and scores, read at an index, on arguments that hold reals. -/
module

public import proofs.«01_k».proof.Proof.Spec
public import proofs.«01_k».proof.Proof.Gen.ReferenceIdeal.Read

@[expose] public section

noncomputable section

namespace Cert.Ref

open Idealize.ShloMosaic Idealize.ShloMosaic.ValueIdx Cert.ReferenceIdeal Cert.ReferenceIdeal.Gen
open Cert.ReferenceIdeal.Read Cert.Spec Cert.Index

/-- The contents of a tensor of extended reals. -/
abbrev Tensor (s : Shape) := (⟨s, .f32⟩ : BufTy).Contents (Elt Ideal)

/-- The contents of the fifteen arguments are these reals. -/
structure Are (A : Args) (x0 : Tensor S128x64x64x25) (x1 : Tensor S3x3x25x25) (x2 : Tensor S3x16x64)
    (x3 x4 x5 : Tensor S3x16) (x6 : Tensor S3x3x16x16) (x7 x8 x9 : Tensor S3x3x16) (x10 : Tensor S3x16x32)
    (x11 x12 : Tensor S3x16) (x13 x14 : Tensor S64) : Prop where
  x : ∀ i, x0 i = ((A.x (i 0) (i 1) (i 2) (i 3) : ℝ) : EReal)
  pa : ∀ i, x1 i = ((A.pa (i 0) (i 1) (i 2) (i 3) : ℝ) : EReal)
  wd : ∀ i, x2 i = ((A.wd (i 0) (i 1) (i 2) : ℝ) : EReal)
  bd : ∀ i, x3 i = ((A.bd (i 0) (i 1) : ℝ) : EReal)
  gd : ∀ i, x4 i = ((A.gd (i 0) (i 1) : ℝ) : EReal)
  ed : ∀ i, x5 i = ((A.ed (i 0) (i 1) : ℝ) : EReal)
  ws : ∀ i, x6 i = ((A.ws (i 0) (i 1) (i 2) (i 3) : ℝ) : EReal)
  bs : ∀ i, x7 i = ((A.bs (i 0) (i 1) (i 2) : ℝ) : EReal)
  gs : ∀ i, x8 i = ((A.gs (i 0) (i 1) (i 2) : ℝ) : EReal)
  es : ∀ i, x9 i = ((A.es (i 0) (i 1) (i 2) : ℝ) : EReal)
  we : ∀ i, x10 i = ((A.we (i 0) (i 1) (i 2) : ℝ) : EReal)
  ge : ∀ i, x11 i = ((A.ge (i 0) (i 1) : ℝ) : EReal)
  ee : ∀ i, x12 i = ((A.ee (i 0) (i 1) : ℝ) : EReal)
  gb : ∀ i, x13 i = ((A.gb (i 0) : ℝ) : EReal)
  bb : ∀ i, x14 i = ((A.bb (i 0) : ℝ) : EReal)

/-- The root of the float nearest 1.00001. -/
theorem sqrt_word : Ideal.sqrt (Ideal.ofBits .f32 0x3F800054#32) = ((root : ℝ) : EReal) := by
  have h : Ideal.ofBits .f32 0x3F800054#32 = ((2097173 / 2097152 : ℝ) : EReal) := by
    simp [Ideal.ofBits, Ideal.ieee, -EReal.coe_mul]; norm_num
  rw [h, Ideal.sqrt_coe, if_neg (by norm_num)]
  rfl

/-- A quotient of reals. -/
theorem div_real (x y : ℝ) (h : y ≠ 0) : Ideal.div ((x : ℝ) : EReal) ((y : ℝ) : EReal) = ((x / y : ℝ) : EReal) := by
  rw [Ideal.div_coe h, ← EReal.coe_mul]; congr 1; ring

/-- The float 64. -/
theorem word_64 : Ideal.ofBits .f32 0x42800000#32 = ((64 : ℝ) : EReal) := by
  simp [Ideal.ofBits, Ideal.ieee, -EReal.coe_mul]; norm_num

/-- The float −2. -/
theorem word_neg2 : Ideal.ofBits .f32 0xC0000000#32 = ((-2 : ℝ) : EReal) := by
  simp [Ideal.ofBits, Ideal.ieee, -EReal.coe_mul]; norm_num

variable {A : Args} {x0 : Tensor S128x64x64x25} {x1 : Tensor S3x3x25x25} {x2 : Tensor S3x16x64}
    {x3 x4 x5 : Tensor S3x16} {x6 : Tensor S3x3x16x16} {x7 x8 x9 : Tensor S3x3x16} {x10 : Tensor S3x16x32}
    {x11 x12 : Tensor S3x16} {x13 x14 : Tensor S64} (h : Are A x0 x1 x2 x3 x4 x5 x6 x7 x8 x9 x10 x11 x12 x13 x14)

include h

/-- The first convolution, its batch norm and the rectifier. -/
theorem down_ref (i : S3x128x16x64x25.Idx) :
    val_main_v16 (F := Ideal) x0 x2 x3 x4 x5 i = ((down A (i 0) (i 1) (i 2) (i 3) (i 4) : ℝ) : EReal) := by
  have h0 : val_main_v0 (F := Ideal) x0 x2 (idx_main_v1 i)
      = ((∑ c, A.wd (i 0) (i 2) c * A.x (i 1) c (i 3) (i 4) : ℝ) : EReal) := by
    rw [val_main_v0_apply, coe_sum]
    exact Finset.sum_congr rfl fun c _ => by rw [h.wd, h.x, EReal.coe_mul]; rfl
  simp only [val_main_v16_apply, val_main_v15_apply, val_main_cst_0_apply, val_main_v14_apply, val_main_v13_apply,
    val_main_v12_apply, val_main_v11_apply, val_main_v10_apply, val_main_v9_apply, val_main_v8_apply, val_main_v7_apply,
    val_main_v6_apply, val_main_v5_apply, val_main_cst_apply, val_main_v4_apply, val_main_v3_apply, val_main_v2_apply,
    val_main_v1_apply, h0, h.bd, h.gd, h.ed, Ideal.maximumf_def, Ideal.addf_def, Ideal.mulf_def, Ideal.hostDivf_def,
    Ideal.hostUnary_sqrt_def, Ideal.ofBits_def, sqrt_word, Ideal.ofBits_zero_f32]
  rw [← EReal.coe_add, div_real _ _ root_ne, ← EReal.coe_mul, ← EReal.coe_add, ← EReal.coe_zero, ← coe_max]
  rfl

/-- The mean over the frames. -/
theorem mean_ref (i : S3x128x16x25.Idx) :
    val_main_v39 (F := Ideal) x0 x2 x3 x4 x5 i = ((mean A (i 0) (i 1) (i 2) (i 3) : ℝ) : EReal) := by
  have h0 : val_main_v37 (F := Ideal) x0 x2 x3 x4 x5 i = ((∑ t, down A (i 0) (i 1) (i 2) t (i 3) : ℝ) : EReal) := by
    rw [val_main_v37_apply, coe_sum, val_main_cst_3_apply, Ideal.ofBits_def, Ideal.ofBits_zero_f32, zero_add]
    exact Finset.sum_congr rfl fun t _ => (down_ref h _).trans rfl
  simp only [val_main_v39_apply, val_main_v38_apply, val_main_cst_4_apply, h0, Ideal.hostDivf_def, Ideal.ofBits_def, word_64]
  rw [div_real _ _ (by norm_num)]
  rfl

/-- The scores. -/
theorem score_ref (i : S3x128x25x25.Idx) :
    val_main_v51 (F := Ideal) x0 x2 x3 x4 x5 i = ((score A (i 0) (i 1) (i 2) (i 3) : ℝ) : EReal) := by
  have h40 : val_main_v40 (F := Ideal) x0 x2 x3 x4 x5 i
      = ((∑ o, mean A (i 0) (i 1) o (i 2) * mean A (i 0) (i 1) o (i 3) : ℝ) : EReal) := by
    rw [val_main_v40_apply, coe_sum]
    exact Finset.sum_congr rfl fun c _ => by rw [mean_ref h, mean_ref h, EReal.coe_mul]; rfl
  have h44 (k : S3x128x25.Idx) : val_main_v44 (F := Ideal) x0 x2 x3 x4 x5 k = ((len A (k 0) (k 1) (k 2) : ℝ) : EReal) := by
    rw [val_main_v44_apply, show len A (k 0) (k 1) (k 2) = ∑ o, mean A (k 0) (k 1) o (k 2) * mean A (k 0) (k 1) o (k 2) from rfl,
      coe_sum, val_main_cst_6_apply, Ideal.ofBits_def, Ideal.ofBits_zero_f32, zero_add]
    exact Finset.sum_congr rfl fun c _ => by
      rw [val_main_v43_apply, Ideal.mulf_def, mean_ref h, EReal.coe_mul]; rfl
  simp only [val_main_v51_apply, val_main_v50_apply, val_main_v49_apply, val_main_v48_apply, val_main_v47_apply,
    val_main_v46_apply, val_main_v45_apply, val_main_v42_apply, val_main_v41_apply, val_main_cst_5_apply, h40, h44,
    Ideal.subf_def, Ideal.negf_def, Ideal.hostNegf_def, Ideal.mulf_def, Ideal.ofBits_def, word_neg2]
  rw [← EReal.coe_mul, ← EReal.coe_neg, ← EReal.coe_sub, ← EReal.coe_sub]
  rfl

end Cert.Ref

end
-- ==== Proof.TopK.lean ====
/- The stable choice of the greatest scores, as a ranking of the vertices. -/
module

public import proofs.«01_k».proof.Proof.RefDown
public import Idealize.ShloMosaic.Lib.SortFacts

@[expose] public section

noncomputable section

namespace Cert.Ref

open Idealize.ShloMosaic Idealize.ShloMosaic.ValueIdx Cert.ReferenceIdeal Cert.ReferenceIdeal.Gen Cert.Index

/-- The vertices from the greatest number down, equal ones in order. -/
@[irreducible] def order (f : Fin 25 → ℝ) : Equiv.Perm (Fin 25) :=
  Equiv.ofBijective (sortedFrom fun a b => decide (f b < f a)) ⟨sortedFrom_injective _, sortedFrom_surjective _⟩

/-- The order's place `k` is the sorted list's. -/
theorem order_apply (f : Fin 25 → ℝ) (k : Fin 25) : order f k = sortedFrom (fun a b => decide (f b < f a)) k := by
  unfold order
  exact Equiv.ofBijective_apply _ _ _

/-- Later places hold lesser or equal numbers. -/
theorem order_anti (f : Fin 25 → ℝ) (i j : Fin 25) (h : i ≤ j) : f (order f j) ≤ f (order f i) := by
  rcases h.eq_or_lt with h | h
  · rw [h]
  rw [order_apply, order_apply]
  exact not_lt.mp (of_decide_eq_false (sortedFrom_noInversion (fun a b => decide (f b < f a)) (fun a b => decide (f b < f a))
    (fun a b hab => decide_eq_false (of_decide_eq_true hab).le.not_gt) (fun a b hab => hab)
    (fun a b c hab hbc => decide_eq_false
      ((not_lt.mp (of_decide_eq_false hab)).trans (not_lt.mp (of_decide_eq_false hbc))).not_gt) i j h))

/-- Strictly falling neighbours among the first six make a ranking. -/
theorem order_ranks (f : Fin 25 → ℝ)
    (h : ∀ k : Fin 5, f (order f ⟨k.val + 1, by omega⟩) < f (order f ⟨k.val, by omega⟩)) : Select.Ranks f (order f) where
  anti := order_anti f
  strict i j hi hij := by
    refine lt_of_le_of_lt (order_anti f ⟨i.val + 1, by omega⟩ j ?_) (h ⟨i.val, hi⟩)
    exact Fin.le_def.mpr hij

/-- The last axis. -/
abbrev last : Fin S3x128x25x25.rank := ⟨3, by decide⟩

/-- The place along the last axis. -/
theorem along_last (l : Fin 3) (n : Fin 128) (v a u : Fin 25) :
    (ix4 l n v a : S3x128x25x25.Idx).along last u = ix4 l n v u := by
  funext d
  fin_cases d <;> rfl

variable (x : S3x128x25x25.Idx → Ideal .f32) (f : Fin 3 → Fin 128 → Fin 25 → Fin 25 → ℝ)
  (hx : ∀ i, x i = ((f (i 0) (i 1) (i 2) (i 3) : ℝ) : EReal))

include hx

/-- The order of the sort along a row is the row's ranking. -/
theorem sorted_row (l : Fin 3) (n : Fin 128) (v a k : Fin 25) :
    sortedFrom (fun k k' : Fin 25 => (FloatOps.cmpfTotal CmpDirection.gt
        (x ((ix4 l n v a : S3x128x25x25.Idx).along last k))
        (x ((ix4 l n v a : S3x128x25x25.Idx).along last k'))) == 1#1) k
      = order (f l n v) k := by
  have : (fun k k' : Fin 25 => (FloatOps.cmpfTotal CmpDirection.gt
        (x ((ix4 l n v a : S3x128x25x25.Idx).along last k))
        (x ((ix4 l n v a : S3x128x25x25.Idx).along last k'))) == 1#1)
      = fun k k' => decide (f l n v k' < f l n v k) := by
    funext k k'
    have e (u : Fin 25) : x (ix4 l n v u) = ((f l n v u : ℝ) : EReal) := hx _
    rw [along_last, along_last, e, e, Ideal.cmpfTotal_def]
    by_cases hk : f l n v k' < f l n v k
    · simp [Ideal.cmp, CmpDirection.ordered, hk]
    · simp [Ideal.cmp, CmpDirection.ordered, hk]
  rw [this, order_apply]

/-- The chosen values. -/
theorem topK_values (m : ℕ) (hm : m ≤ 25)
    (h : S3x128x25x25.Slices (fun _ => 0) (⟨4, ![3, 128, 25, m]⟩ : Shape)) (l : Fin 3) (n : Fin 128) (v : Fin 25) (k : Fin m) :
    (Host.topK (⟨4, ![3, 128, 25, m]⟩ : Shape) 3 (FloatOps.cmpfTotal .gt) x h).1 (ix4 l n v k)
      = ((f l n v (order (f l n v) ⟨k.val, by omega⟩) : ℝ) : EReal) := by
  unfold Host.topK Host.sort2
  dsimp only
  rw [dif_pos (show 3 < S3x128x25x25.rank by decide)]
  dsimp only
  refine (extractStridedSlice_apply (s := S3x128x25x25) (fun _ => 0) _ h (ix4 l n v k) (ix4 l n v (⟨k.val, by omega⟩ : Fin 25))
    (by intro a; fin_cases a <;> simp [ix4])).trans ?_
  refine (congrArg (fun p : Fin 25 => x ((ix4 l n v (⟨k.val, by omega⟩ : Fin 25) : S3x128x25x25.Idx).along last p))
    (sorted_row x f hx l n v ⟨k.val, by omega⟩ ⟨k.val, by omega⟩)).trans ?_
  rw [along_last]
  exact hx _

/-- The chosen positions, as words. -/
theorem topK_indices (m : ℕ) (hm : m ≤ 25)
    (h : S3x128x25x25.Slices (fun _ => 0) (⟨4, ![3, 128, 25, m]⟩ : Shape)) (l : Fin 3) (n : Fin 128) (v : Fin 25) (k : Fin m) :
    (Host.topK (⟨4, ![3, 128, 25, m]⟩ : Shape) 3 (FloatOps.cmpfTotal .gt) x h).2 (ix4 l n v k)
      = BitVec.ofNat 32 (order (f l n v) ⟨k.val, by omega⟩).val := by
  unfold Host.topK Host.sort2
  dsimp only
  rw [dif_pos (show 3 < S3x128x25x25.rank by decide)]
  dsimp only
  refine (extractStridedSlice_apply (s := S3x128x25x25) (fun _ => 0) _ h (ix4 l n v k) (ix4 l n v (⟨k.val, by omega⟩ : Fin 25))
    (by intro a; fin_cases a <;> simp [ix4])).trans ?_
  refine (congrArg (fun p : Fin 25 => iotaInDim S3x128x25x25 32 last
    ((ix4 l n v (⟨k.val, by omega⟩ : Fin 25) : S3x128x25x25.Idx).along last p))
    (sorted_row x f hx l n v ⟨k.val, by omega⟩ ⟨k.val, by omega⟩)).trans ?_
  rw [along_last]
  rfl

end Cert.Ref

end
-- ==== Proof.Pre.lean ====
/- What the precondition says: the arguments hold reals, and no tie reaches into the chosen neighbours. -/
module

public import proofs.«01_k».proof.Proof.TopK
public import proofs.«01_k».proof.Defs
public import proofs.«01_k».proof.Proof.Gen.Pre_finite_no_tie

@[expose] public section

noncomputable section

namespace Cert.Pre

open Idealize.ShloMosaic Idealize.ShloMosaic.ValueIdx Cert.ReferenceIdeal Cert.ReferenceIdeal.Gen
open Cert.ReferenceIdeal.Read Cert.Spec Cert.Index Cert.Ref

/-- The float +∞. -/
theorem word_top : Ideal.ofBits .f32 0x7F800000#32 = ⊤ := by
  simp [Ideal.ofBits, Ideal.ieee]

/-- A number whose magnitude is below +∞ is a real. -/
theorem coe_of_lt (a : EReal) (h : Ideal.cmp .olt (max a (-a)) ⊤ = 1#1) : a = ((a.toReal : ℝ) : EReal) := by
  have hlt : max a (-a) < ⊤ := by
    by_contra hn
    simp [Ideal.cmp, hn] at h
  refine (EReal.coe_toReal ?_ ?_).symm
  · rintro rfl; simp at hlt
  · rintro rfl; simp at hlt

/-- A tensor the check passes holds reals. -/
theorem tensor_real {s : Shape} (x : Tensor s) (hb : Shape.BroadcastsInDim S_ s ![])
    (h : cmpf .olt (Host.absf x : FVec Ideal s .f32) (broadcastInDim s ![] hb (constant (F := Ideal) S_ .f32 0x7F800000#32)) = fun _ => 1#1)
    (i : s.Idx) : x i = (((x i).toReal : ℝ) : EReal) := by
  refine coe_of_lt (x i) ?_
  have := congrFun h i
  rw [← word_top]
  exact this

/-- The fifteen arguments' reals. -/
def argsOf (x0 : Tensor S128x64x64x25) (x1 : Tensor S3x3x25x25) (x2 : Tensor S3x16x64)
    (x3 x4 x5 : Tensor S3x16) (x6 : Tensor S3x3x16x16) (x7 x8 x9 : Tensor S3x3x16) (x10 : Tensor S3x16x32)
    (x11 x12 : Tensor S3x16) (x13 x14 : Tensor S64) : Args where
  x a b c d := (x0 (ix4 a b c d)).toReal
  pa a b c d := (x1 (ix4 a b c d)).toReal
  wd a b c := (x2 (ix3 a b c)).toReal
  bd a b := (x3 (ix2 a b)).toReal
  gd a b := (x4 (ix2 a b)).toReal
  ed a b := (x5 (ix2 a b)).toReal
  ws a b c d := (x6 (ix4 a b c d)).toReal
  bs a b c := (x7 (ix3 a b c)).toReal
  gs a b c := (x8 (ix3 a b c)).toReal
  es a b c := (x9 (ix3 a b c)).toReal
  we a b c := (x10 (ix3 a b c)).toReal
  ge a b := (x11 (ix2 a b)).toReal
  ee a b := (x12 (ix2 a b)).toReal
  gb a := (x13 (ix1 a)).toReal
  bb a := (x14 (ix1 a)).toReal

/-- Six greatest numbers of a row that fall strictly rank the row. -/
theorem ranks (x : S3x128x25x25.Idx → Ideal .f32) (f : Fin 3 → Fin 128 → Fin 25 → Fin 25 → ℝ)
    (hx : ∀ i, x i = ((f (i 0) (i 1) (i 2) (i 3) : ℝ) : EReal))
    (hk : S3x128x25x25.Slices (fun _ => 0) (⟨4, ![3, 128, 25, 6]⟩ : Shape))
    (h0 : (⟨4, ![3, 128, 25, 6]⟩ : Shape).Slices ![0, 0, 0, 0] S3x128x25x5)
    (h1 : (⟨4, ![3, 128, 25, 6]⟩ : Shape).Slices ![0, 0, 0, 1] S3x128x25x5)
    (hf : cmpf .ogt
        (extractStridedSlice S3x128x25x5 ![0, 0, 0, 0]
          (Host.topK (⟨4, ![3, 128, 25, 6]⟩ : Shape) 3 (FloatOps.cmpfTotal .gt) x hk).1 h0 : FVec Ideal S3x128x25x5 .f32)
        (extractStridedSlice S3x128x25x5 ![0, 0, 0, 1]
          (Host.topK (⟨4, ![3, 128, 25, 6]⟩ : Shape) 3 (FloatOps.cmpfTotal .gt) x hk).1 h1) = fun _ => 1#1)
    (l : Fin 3) (n : Fin 128) (v : Fin 25) : Select.Ranks (f l n v) (order (f l n v)) := by
  refine order_ranks _ fun k => ?_
  have hv := topK_values x f hx 6 (by decide) hk l n v
  have hc := congrFun hf (ix4 l n v k)
  generalize (Host.topK (⟨4, ![3, 128, 25, 6]⟩ : Shape) 3 (FloatOps.cmpfTotal .gt) x hk).1 = y at hv hc
  have e0 : extractStridedSlice S3x128x25x5 ![0, 0, 0, 0] y h0 (ix4 l n v k) = y (ix4 l n v (⟨k.val, by omega⟩ : Fin 6)) :=
    extractStridedSlice_apply _ _ h0 (ix4 l n v k) (ix4 l n v (⟨k.val, by omega⟩ : Fin 6))
      (by intro a; fin_cases a <;> simp [ix4])
  have e1 : extractStridedSlice S3x128x25x5 ![0, 0, 0, 1] y h1 (ix4 l n v k) = y (ix4 l n v (⟨k.val + 1, by omega⟩ : Fin 6)) :=
    extractStridedSlice_apply _ _ h1 (ix4 l n v k) (ix4 l n v (⟨k.val + 1, by omega⟩ : Fin 6))
      (by intro a; fin_cases a <;> simp [ix4, add_comm])
  have hc : Ideal.cmp .ogt (extractStridedSlice S3x128x25x5 ![0, 0, 0, 0] y h0 (ix4 l n v k))
      (extractStridedSlice S3x128x25x5 ![0, 0, 0, 1] y h1 (ix4 l n v k)) = 1#1 := hc
  rw [e0, e1, hv, hv] at hc
  by_contra hn
  simp only [Ideal.cmp, EReal.coe_lt_coe_iff] at hc
  rw [decide_eq_false hn] at hc
  exact absurd hc (by decide)

/-- The precondition, of one device's arguments. -/
theorem holds (x0 : Tensor S128x64x64x25) (x1 : Tensor S3x3x25x25) (x2 : Tensor S3x16x64)
    (x3 x4 x5 : Tensor S3x16) (x6 : Tensor S3x3x16x16) (x7 x8 x9 : Tensor S3x3x16) (x10 : Tensor S3x16x32)
    (x11 x12 : Tensor S3x16) (x13 x14 : Tensor S64)
    (y : _) (hy : y = Cert.Pre_finite_no_tie.fn (F := Ideal) x0 x1 x2 x3 x4 x5 x6 x7 x8 x9 x10 x11 x12 x13 x14)
    (h0 : y.1 = fun _ => 1#1) (h1 : y.2.1 = fun _ => 1#1) (h2 : y.2.2.1 = fun _ => 1#1) (h3 : y.2.2.2.1 = fun _ => 1#1)
    (h4 : y.2.2.2.2.1 = fun _ => 1#1) (h5 : y.2.2.2.2.2.1 = fun _ => 1#1) (h6 : y.2.2.2.2.2.2.1 = fun _ => 1#1)
    (h7 : y.2.2.2.2.2.2.2.1 = fun _ => 1#1) (h8 : y.2.2.2.2.2.2.2.2.1 = fun _ => 1#1)
    (h9 : y.2.2.2.2.2.2.2.2.2.1 = fun _ => 1#1) (h10 : y.2.2.2.2.2.2.2.2.2.2.1 = fun _ => 1#1)
    (h11 : y.2.2.2.2.2.2.2.2.2.2.2.1 = fun _ => 1#1) (h12 : y.2.2.2.2.2.2.2.2.2.2.2.2.1 = fun _ => 1#1)
    (h13 : y.2.2.2.2.2.2.2.2.2.2.2.2.2.1 = fun _ => 1#1) (h14 : y.2.2.2.2.2.2.2.2.2.2.2.2.2.2.1 = fun _ => 1#1)
    (h15 : y.2.2.2.2.2.2.2.2.2.2.2.2.2.2.2 = fun _ => 1#1) :
    ∃ A : Args, Are A x0 x1 x2 x3 x4 x5 x6 x7 x8 x9 x10 x11 x12 x13 x14
      ∧ ∀ l n v, Select.Ranks (score A l n v) (order (score A l n v)) := by
  subst hy
  have H : Are (argsOf x0 x1 x2 x3 x4 x5 x6 x7 x8 x9 x10 x11 x12 x13 x14) x0 x1 x2 x3 x4 x5 x6 x7 x8 x9 x10 x11 x12 x13 x14 := {
    x := fun i => (tensor_real x0 _ h0 i).trans (by conv_lhs => rw [eq_ix4 i]
                                                    rfl)
    pa := fun i => (tensor_real x1 _ h1 i).trans (by conv_lhs => rw [eq_ix4 i]
                                                     rfl)
    wd := fun i => (tensor_real x2 _ h2 i).trans (by conv_lhs => rw [eq_ix3 i]
                                                     rfl)
    bd := fun i => (tensor_real x3 _ h3 i).trans (by conv_lhs => rw [eq_ix2 i]
                                                     rfl)
    gd := fun i => (tensor_real x4 _ h4 i).trans (by conv_lhs => rw [eq_ix2 i]
                                                     rfl)
    ed := fun i => (tensor_real x5 _ h5 i).trans (by conv_lhs => rw [eq_ix2 i]
                                                     rfl)
    ws := fun i => (tensor_real x6 _ h6 i).trans (by conv_lhs => rw [eq_ix4 i]
                                                     rfl)
    bs := fun i => (tensor_real x7 _ h7 i).trans (by conv_lhs => rw [eq_ix3 i]
                                                     rfl)
    gs := fun i => (tensor_real x8 _ h8 i).trans (by conv_lhs => rw [eq_ix3 i]
                                                     rfl)
    es := fun i => (tensor_real x9 _ h9 i).trans (by conv_lhs => rw [eq_ix3 i]
                                                     rfl)
    we := fun i => (tensor_real x10 _ h10 i).trans (by conv_lhs => rw [eq_ix3 i]
                                                       rfl)
    ge := fun i => (tensor_real x11 _ h11 i).trans (by conv_lhs => rw [eq_ix2 i]
                                                       rfl)
    ee := fun i => (tensor_real x12 _ h12 i).trans (by conv_lhs => rw [eq_ix2 i]
                                                       rfl)
    gb := fun i => (tensor_real x13 _ h13 i).trans (by conv_lhs => rw [eq_ix1 i]
                                                       rfl)
    bb := fun i => (tensor_real x14 _ h14 i).trans (by conv_lhs => rw [eq_ix1 i]
                                                       rfl) }
  exact ⟨_, H, fun l n v => ranks _ _ (score_ref H) _ _ _ h15 l n v⟩

end Cert.Pre

end
-- ==== Proof.Gather.lean ====
/- The reference's gather of a vertex's neighbours, read at an index. -/
module

public import proofs.«01_k».proof.Proof.TopK

@[expose] public section

noncomputable section

namespace Cert.Ref

open Idealize.ShloMosaic Idealize.ShloMosaic.ValueIdx Cert.ReferenceIdeal Cert.ReferenceIdeal.Gen Cert.Index

/-- The gather's dimension numbers. -/
abbrev rows := gather_S3x128x25x16_S3x128x25x5x1_S3x128x25x5x16_4_2_01_01_2_4_11116

/-- A word of a small number, read signed and clamped, is that number. -/
theorem word_small (u : Fin 25) : min (BitVec.ofNat 32 u.val).toInt.toNat (25 - 1) = u.val := by
  revert u; decide

/-- The gather at an index whose start word is the vertex `u` reads that vertex. -/
theorem gather_rows {α : Type} (x : S3x128x25x16.Idx → α) (idx : IVec S3x128x25x5x1 32) (l : Fin 3) (n : Fin 128)
    (v : Fin 25) (k : Fin 5) (o : Fin 16) (u : Fin 25) (hu : idx (ix5 l n v k 0) = BitVec.ofNat 32 u.val) :
    Host.gather rows x idx (ix5 l n v k o) = x (ix4 l n u o) := by
  unfold Host.gather
  congr 1
  funext a
  refine Fin.ext ?_
  show rows.start (ix5 l n v k o) idx a + rows.batchCoord (ix5 l n v k o) a + rows.offCoord (ix5 l n v k o) a = _
  have h : a = 0 ∨ a = 1 ∨ a = 2 ∨ a = 3 := by revert a; decide
  rcases h with rfl | rfl | rfl | rfl
  · rw [GatherDims.start_batching _ _ _ _ (by decide), GatherDims.offCoord_eq_zero _ _ _ (by decide)]
    unfold GatherDims.batchCoord
    rw [dif_pos (by decide)]
    simp only [Nat.zero_add, Nat.add_zero]
    rfl
  · rw [GatherDims.start_batching _ _ _ _ (by decide), GatherDims.offCoord_eq_zero _ _ _ (by decide)]
    unfold GatherDims.batchCoord
    rw [dif_pos (by decide)]
    simp only [Nat.zero_add, Nat.add_zero]
    rfl
  · rw [GatherDims.batchCoord_eq_zero _ _ _ (by decide), GatherDims.offCoord_eq_zero _ _ _ (by decide)]
    unfold GatherDims.start
    rw [dif_pos (by decide)]
    have hsi : rows.siIdx (ix5 l n v k o) ⟨List.idxOf (2 : Fin 4) rows.startIndexMap,
        List.idxOf_lt_length_iff.2 (by decide)⟩ = ix5 l n v k 0 := by
      funext b
      fin_cases b <;> rfl
    rw [hsi, hu]
    simp only [Nat.add_zero]
    exact word_small u
  · rw [GatherDims.batchCoord_eq_zero _ _ _ (by decide)]
    unfold GatherDims.start GatherDims.offCoord
    rw [dif_neg (by decide), dif_pos (by decide)]
    simp only [Nat.zero_add, Nat.add_zero]
    rfl

end Cert.Ref

end
-- ==== Proof.RefEdge.lean ====
/- The reference's edge convolution, read at an index, on arguments that hold reals. -/
module

public import proofs.«01_k».proof.Proof.Gather

@[expose] public section

noncomputable section

namespace Cert.Ref

open Idealize.ShloMosaic Idealize.ShloMosaic.ValueIdx Cert.ReferenceIdeal Cert.ReferenceIdeal.Gen
open Cert.ReferenceIdeal.Read Cert.Spec Cert.Index

/-- The float nearest 0.2. -/
theorem word_slope : Ideal.ofBits .f32 0x3E4CCCCD#32 = ((slope : ℝ) : EReal) := by
  simp [Ideal.ofBits, Ideal.ieee, -EReal.coe_mul, Spec.slope]; norm_num

/-- The float −∞. -/
theorem word_bot : Ideal.ofBits .f32 0xFF800000#32 = ⊥ := by
  simp [Ideal.ofBits, Ideal.ieee]

/-- The rectifier's selection. -/
theorem leaky_select (y : ℝ) : Scalar.select (Ideal.cmp .ogt ((y : ℝ) : EReal) 0) ((y : ℝ) : EReal)
    (((slope : ℝ) : EReal) * ((y : ℝ) : EReal)) = ((Select.leaky slope y : ℝ) : EReal) := by
  unfold Select.leaky
  by_cases h : 0 < y
  · rw [if_pos h]
    simp [Ideal.cmp, Scalar.select, h]
  · rw [if_neg h, EReal.coe_mul]
    simp [Ideal.cmp, Scalar.select, h]

/-- A small vertex number is not negative. -/
theorem word_select (u : Fin 25) (w : BitVec 32) :
    Scalar.select (IntOp.cmpi .slt (BitVec.ofNat 32 u.val) 0#32) w (BitVec.ofNat 32 u.val) = BitVec.ofNat 32 u.val := by
  have h : IntOp.cmpi .slt (BitVec.ofNat 32 u.val) 0#32 = 0#1 := by revert u; decide
  rw [h]; rfl

variable {A : Args} {x0 : Tensor S128x64x64x25} {x1 : Tensor S3x3x25x25} {x2 : Tensor S3x16x64}
    {x3 x4 x5 : Tensor S3x16} {x6 : Tensor S3x3x16x16} {x7 x8 x9 : Tensor S3x3x16} {x10 : Tensor S3x16x32}
    {x11 x12 : Tensor S3x16} {x13 x14 : Tensor S64} (h : Are A x0 x1 x2 x3 x4 x5 x6 x7 x8 x9 x10 x11 x12 x13 x14)

include h

/-- The neighbours' word, at an index. -/
theorem word_ref (l : Fin 3) (n : Fin 128) (v : Fin 25) (k : Fin 5) :
    val_main_v58 (F := Ideal) x0 x2 x3 x4 x5 (ix5 l n v k 0)
      = BitVec.ofNat 32 (Select.five (order (score A l n v)) k).val := by
  have hi : val_main_indices (F := Ideal) x0 x2 x3 x4 x5 (ix4 l n v k)
      = BitVec.ofNat 32 (Select.five (order (score A l n v)) k).val :=
    topK_indices _ _ (score_ref h) 5 (by decide) sliceFits_S3x128x25x25_S3x128x25x5 l n v k
  have e : idx_main_v58 (ix5 l n v k 0 : S3x128x25x5x1.Idx) = ix4 l n v k := by
    funext a; fin_cases a <;> rfl
  rw [val_main_v58_apply, e, val_main_v57_apply, val_main_v54_apply, val_main_v53_apply, val_main_c_apply, hi]
  exact word_select _ _

/-- A neighbour's mean. -/
theorem neighbour_ref (i : S3x128x25x5x16.Idx) : val_main_v59 (F := Ideal) x0 x2 x3 x4 x5 i
    = ((mean A (i 0) (i 1) (i 4) (Select.five (order (score A (i 0) (i 1) (i 2))) (i 3)) : ℝ) : EReal) := by
  conv_lhs => rw [eq_ix5 i]
  unfold val_main_v59
  refine (gather_rows _ _ _ _ _ _ _ _ (word_ref h _ _ _ _)).trans ?_
  rw [val_main_v52_apply]
  exact mean_ref h _

/-- The vertex's own mean. -/
theorem own_ref (i : S3x128x25x5x16.Idx) : val_main_v61 (F := Ideal) x0 x2 x3 x4 x5 i
    = ((mean A (i 0) (i 1) (i 4) (i 2) : ℝ) : EReal) := by
  rw [val_main_v61_apply, val_main_v60_apply, val_main_v52_apply]
  exact mean_ref h _

/-- The edge feature. -/
theorem feature_ref (l : Fin 3) (n : Fin 128) (v : Fin 25) (k : Fin 5) (c : Fin 32) :
    val_main_v63 (F := Ideal) x0 x2 x3 x4 x5 (ix5 l n v k c)
      = ((feature A l n v (Select.five (order (score A l n v)) k) c : ℝ) : EReal) := by
  unfold val_main_v63 feature
  by_cases hc : c.val < 16
  · rw [dif_pos hc]
    refine (concatenate_pair_apply_left 4 _ _ concatenates_S3x128x25x5x16_S3x128x25x5x16_S3x128x25x5x32_d4
      (ix5 l n v k c) rfl (ix5 l n v k ⟨c.val, hc⟩) (by intro a; fin_cases a <;> rfl)).trans ?_
    rw [val_main_v62_apply, neighbour_ref h, own_ref h, Ideal.subf_def, EReal.coe_sub]
  · rw [dif_neg hc]
    refine (concatenate_pair_apply_right 4 _ _ concatenates_S3x128x25x5x16_S3x128x25x5x16_S3x128x25x5x32_d4
      (ix5 l n v k c) rfl rfl (ix5 l n v k ⟨c.val - 16, by omega⟩)
      (by intro a ha; fin_cases a <;> first | rfl | exact absurd rfl ha) (by show c.val - 16 + 16 = c.val; omega)).trans ?_
    exact own_ref h _

/-- The edge convolution with its batch norm. -/
theorem conv_ref (i : S3x128x16x25x5.Idx) : val_main_v75 (F := Ideal) x0 x2 x3 x4 x5 x10 x11 x12 i
    = ((conv A (i 0) (i 1) (i 2) (i 3) (Select.five (order (score A (i 0) (i 1) (i 3))) (i 4)) : ℝ) : EReal) := by
  have h0 : val_main_v64 (F := Ideal) x0 x2 x3 x4 x5 x10 (idx_main_v65 i)
      = ((∑ c, A.we (i 0) (i 2) c * feature A (i 0) (i 1) (i 3) (Select.five (order (score A (i 0) (i 1) (i 3))) (i 4)) c : ℝ)
          : EReal) := by
    rw [val_main_v64_apply, coe_sum]
    refine Finset.sum_congr rfl fun c _ => ?_
    rw [eq_ix5 (ridx_main_v64 (idx_main_v65 i) c), h.we, EReal.coe_mul]
    exact congrArg _ (feature_ref h (i 0) (i 1) (i 3) (i 4) c)
  simp only [val_main_v75_apply, val_main_v74_apply, val_main_v73_apply, val_main_v72_apply, val_main_v71_apply,
    val_main_v70_apply, val_main_v69_apply, val_main_v68_apply, val_main_v67_apply, val_main_v66_apply,
    val_main_cst_8_apply, val_main_v65_apply, h0, h.ge, h.ee, Ideal.addf_def, Ideal.mulf_def, Ideal.hostDivf_def,
    Ideal.hostUnary_sqrt_def, Ideal.ofBits_def, sqrt_word]
  rw [div_real _ _ root_ne, ← EReal.coe_mul, ← EReal.coe_add]
  rfl

/-- The rectified edge convolution. -/
theorem leaky_ref (i : S3x128x16x25x5.Idx) : val_main_v80 (F := Ideal) x0 x2 x3 x4 x5 x10 x11 x12 i
    = ((Select.leaky slope (conv A (i 0) (i 1) (i 2) (i 3) (Select.five (order (score A (i 0) (i 1) (i 3))) (i 4))) : ℝ)
        : EReal) := by
  simp only [val_main_v80_apply, val_main_v79_apply, val_main_v78_apply, val_main_cst_10_apply, val_main_v77_apply,
    val_main_v76_apply, val_main_cst_9_apply, conv_ref h, Ideal.mulf_def, Ideal.cmpf_def, Ideal.ofBits_def, word_slope,
    Ideal.ofBits_zero_f32]
  exact leaky_select _

/-- The greatest over the neighbours. -/
theorem edge_ref (i : S3x128x16x25.Idx) : val_main_v81 (F := Ideal) x0 x2 x3 x4 x5 x10 x11 x12 i
    = ((edge A (order (score A (i 0) (i 1) (i 3))) (i 0) (i 1) (i 2) (i 3) : ℝ) : EReal) := by
  unfold val_main_v81
  rw [Host.reduce_eq_fold_single FloatOps.maximumf _ _ _ (by decide) h_S_ i, val_main_cst_11_apply, Ideal.ofBits_def, word_bot]
  refine Eq.trans ?_ (Select.sup_coe _)
  refine Finset.sup_congr rfl fun k _ => ?_
  exact leaky_ref h _

end Cert.Ref

end
-- ==== Proof.RefOut.lean ====
/- The reference's subset convolutions and its result, read at an index, on arguments that hold reals. -/
module

public import proofs.«01_k».proof.Proof.RefEdge

@[expose] public section

noncomputable section

namespace Cert.Ref

open Idealize.ShloMosaic Idealize.ShloMosaic.ValueIdx Cert.ReferenceIdeal Cert.ReferenceIdeal.Gen
open Cert.ReferenceIdeal.Read Cert.Spec Cert.Index

variable {A : Args} {x0 : Tensor S128x64x64x25} {x1 : Tensor S3x3x25x25} {x2 : Tensor S3x16x64}
    {x3 x4 x5 : Tensor S3x16} {x6 : Tensor S3x3x16x16} {x7 x8 x9 : Tensor S3x3x16} {x10 : Tensor S3x16x32}
    {x11 x12 : Tensor S3x16} {x13 x14 : Tensor S64} (h : Are A x0 x1 x2 x3 x4 x5 x6 x7 x8 x9 x10 x11 x12 x13 x14)

include h

/-- The vertices mixed by the graph. -/
theorem mixed_ref (i : S3x3x128x16x64x25.Idx) : val_main_v18 (F := Ideal) x0 x1 x2 x3 x4 x5 i
    = ((∑ u, A.pa (i 0) (i 1) (i 5) u * down A (i 0) (i 2) (i 3) (i 4) u : ℝ) : EReal) := by
  rw [val_main_v18_apply, val_main_v17_apply, coe_sum]
  exact Finset.sum_congr rfl fun u _ => by rw [h.pa, down_ref h, EReal.coe_mul]; rfl

/-- One layer's and one subset's convolution with its batch norm. -/
theorem sub_ref (i : S3x3x128x16x64x25.Idx) : val_main_v33 (F := Ideal) x0 x1 x2 x3 x4 x5 x6 x7 x8 x9 i
    = ((sub A (i 0) (i 1) (i 2) (i 3) (i 4) (i 5) : ℝ) : EReal) := by
  have h0 : val_main_v19 (F := Ideal) x0 x1 x2 x3 x4 x5 x6 (idx_main_v20 i)
      = ((∑ c, A.ws (i 0) (i 1) (i 3) c * ∑ u, A.pa (i 0) (i 1) (i 5) u * down A (i 0) (i 2) c (i 4) u : ℝ) : EReal) := by
    rw [val_main_v19_apply, coe_sum]
    exact Finset.sum_congr rfl fun c _ => by rw [h.ws, mixed_ref h, EReal.coe_mul]; rfl
  simp only [val_main_v33_apply, val_main_v32_apply, val_main_v31_apply, val_main_v30_apply, val_main_v29_apply,
    val_main_v28_apply, val_main_v27_apply, val_main_v26_apply, val_main_v25_apply, val_main_v24_apply,
    val_main_cst_1_apply, val_main_v23_apply, val_main_v22_apply, val_main_v21_apply, val_main_v20_apply, h0, h.bs, h.gs,
    h.es, Ideal.addf_def, Ideal.mulf_def, Ideal.hostDivf_def, Ideal.hostUnary_sqrt_def, Ideal.ofBits_def, sqrt_word]
  rw [← EReal.coe_add, div_real _ _ root_ne, ← EReal.coe_mul, ← EReal.coe_add]
  rfl

/-- The layers' sum of the subsets. -/
theorem subs_ref (i : S3x128x16x64x25.Idx) : val_main_v34 (F := Ideal) x0 x1 x2 x3 x4 x5 x6 x7 x8 x9 i
    = ((∑ l, sub A l (i 0) (i 1) (i 2) (i 3) (i 4) : ℝ) : EReal) := by
  rw [val_main_v34_apply, coe_sum, val_main_cst_2_apply, Ideal.ofBits_def, Ideal.ofBits_zero_f32, zero_add]
  exact Finset.sum_congr rfl fun l _ => (sub_ref h _).trans rfl

/-- The layers' sum of the edges. -/
theorem edges_ref (i : S128x16x64x25.Idx) : val_main_v84 (F := Ideal) x0 x2 x3 x4 x5 x10 x11 x12 i
    = ((∑ l, edge A (order (score A l (i 0) (i 3))) l (i 0) (i 1) (i 3) : ℝ) : EReal) := by
  rw [val_main_v84_apply, val_main_v83_apply, val_main_v82_apply, coe_sum, val_main_cst_12_apply, Ideal.ofBits_def,
    Ideal.ofBits_zero_f32, zero_add]
  exact Finset.sum_congr rfl fun l _ => (edge_ref h _).trans rfl

/-- The channels side by side. -/
theorem cat_ref (n : Fin 128) (j : Fin 4) (o : Fin 16) (t : Fin 64) (v : Fin 25) :
    val_main_v85 (F := Ideal) x0 x1 x2 x3 x4 x5 x6 x7 x8 x9 x10 x11 x12 (ix4 n (jo j o) t v)
      = ((cat A (fun l => order (score A l n v)) n o t v j : ℝ) : EReal) := by
  have ho := o.isLt
  unfold val_main_v85 cat
  by_cases hj : j.val < 3
  · rw [dif_pos hj]
    refine (concatenate_pair_apply_left 1 _ _ concatenates_S128x48x64x25_S128x16x64x25_S128x64x64x25_d1
      (ix4 n (jo j o) t v) rfl (ix4 n (lo ⟨j.val, hj⟩ o) t v) (by intro a; fin_cases a <;> rfl)).trans ?_
    have e : idx_main_v35 (idx_main_v36 (ix4 n (lo ⟨j.val, hj⟩ o) t v)) = ix5 ⟨j.val, hj⟩ n o t v := by
      funext a
      refine Fin.ext ?_
      have := n.isLt; have := t.isLt; have := v.isLt
      fin_cases a
      · show (((n.val * 48 + (16 * j.val + o.val)) * 64 + t.val) * 25 + v.val) / 25600 % 3 = j.val
        omega
      · show (((n.val * 48 + (16 * j.val + o.val)) * 64 + t.val) * 25 + v.val) / 76800 = n.val
        omega
      · show (((n.val * 48 + (16 * j.val + o.val)) * 64 + t.val) * 25 + v.val) / 1600 % 16 = o.val
        omega
      · show (((n.val * 48 + (16 * j.val + o.val)) * 64 + t.val) * 25 + v.val) / 25 % 64 = t.val
        omega
      · show (((n.val * 48 + (16 * j.val + o.val)) * 64 + t.val) * 25 + v.val) % 25 = v.val
        omega
    rw [val_main_v36_apply, val_main_v35_apply, e]
    exact subs_ref h _
  · rw [dif_neg hj]
    refine (concatenate_pair_apply_right 1 _ _ concatenates_S128x48x64x25_S128x16x64x25_S128x64x64x25_d1
      (ix4 n (jo j o) t v) rfl rfl (ix4 n o t v)
      (by intro a ha; fin_cases a <;> first | rfl | exact absurd rfl ha)
      (by show o.val + 48 = 16 * j.val + o.val; omega)).trans ?_
    exact edges_ref h _

/-- The reference's result. -/
theorem out_ref (n : Fin 128) (j : Fin 4) (o : Fin 16) (t : Fin 64) (v : Fin 25) :
    val_main_v99 (F := Ideal) x0 x1 x2 x3 x4 x5 x6 x7 x8 x9 x10 x11 x12 x13 x14 (ix3 n (ct (jo j o) t) v)
      = ((out A (fun l => order (score A l n v)) n j o t v : ℝ) : EReal) := by
  have ho := o.isLt
  have e : idx_main_v99 (ix3 n (ct (jo j o) t) v) = ix4 n (jo j o) t v := by
    funext a
    refine Fin.ext ?_
    have := n.isLt; have := t.isLt; have := v.isLt; have := j.isLt
    fin_cases a
    · show ((n.val * 4096 + (64 * (16 * j.val + o.val) + t.val)) * 25 + v.val) / 102400 = n.val
      omega
    · show ((n.val * 4096 + (64 * (16 * j.val + o.val) + t.val)) * 25 + v.val) / 1600 % 64 = 16 * j.val + o.val
      omega
    · show ((n.val * 4096 + (64 * (16 * j.val + o.val) + t.val)) * 25 + v.val) / 25 % 64 = t.val
      omega
    · show ((n.val * 4096 + (64 * (16 * j.val + o.val) + t.val)) * 25 + v.val) % 25 = v.val
      omega
  rw [val_main_v99_apply, e]
  simp only [val_main_v98_apply, val_main_v97_apply, val_main_cst_14_apply, val_main_v96_apply, val_main_v95_apply,
    val_main_v94_apply, val_main_v93_apply, val_main_v92_apply, val_main_v91_apply, val_main_v90_apply, val_main_v89_apply,
    val_main_v88_apply, val_main_v87_apply, val_main_v86_apply, val_main_cst_13_apply, cat_ref h, h.gb, h.bb, h.x,
    Ideal.maximumf_def, Ideal.addf_def, Ideal.mulf_def, Ideal.hostDivf_def, Ideal.hostUnary_sqrt_def, Ideal.ofBits_def,
    sqrt_word, Ideal.ofBits_zero_f32]
  rw [div_real _ _ root_ne, ← EReal.coe_mul, ← EReal.coe_add, ← EReal.coe_add, ← EReal.coe_zero, ← coe_max]
  rfl

end Cert.Ref

end
-- ==== Proof.Body.lean ====
/- What the kernel's body computes for one sample, stage by stage, as functions of the blocks it loads. -/
module

public import proofs.«01_k».proof.Proof.Gen.KernelIdeal

@[expose] public section

noncomputable section

namespace Cert.Body

open Idealize.ShloMosaic Cert.KernelIdeal Cert.KernelIdeal.Gen

variable {F : FTy → Type} [FloatOps F] [Named F]

/-- The convolution to the 48 channels of the three layers, its bias and the rectifier, channels before vertices. -/
def down (v0 : Vec F S1x64x1600 .f32) (wdt : Vec F S64x48 .f32) (bd : Vec F S1x48 .f32) : FVec F S64x48x25 .bf16 :=
  transpose S64x48x25 [0, 2, 1] (shapeCast S64x25x48 (truncf .bf16 (maximumf
    (addf
      (matmul dot_S1600x64_S64x48_S1600x48_1_0_0_1_n_n none
        (transpose S1600x64 [1, 0]
          (truncf .bf16 (shapeCast S64x1600 v0 shapeCasts_S1x64x1600_S64x1600) bitsLt_bf16_f32 : FVec F S64x1600 .bf16)
          transposes_S64x1600_p1_0_S1600x64)
        (shapeCast S64x48 wdt shapeCasts_S64x48_S64x48 : FVec F S64x48 .f32)
        (constant S1600x48 .f32 0x00000000#32))
      (broadcastTo S1600x48 (shapeCast S1x48 bd shapeCasts_S1x48_S1x48) broadcasts_S1x48_S1600x48))
    (broadcast S1600x48 (Scalar.ofBits .f32 0x00000000#32 : F .f32))) bitsLt_bf16_f32 : FVec F S1600x48 .bf16)
    shapeCasts_S1600x48_S64x25x48) transposes_S64x25x48_p0_2_1_S64x48x25

/-- A layer's channels lie within the forty-eight. -/
theorem slicesLayer (i : Fin 3) : S64x48x25.Slices ![0, 16 * i.val, 0] S64x16x25 := by revert i; decide
/-- A subset's vertices lie within the seventy-five. -/
theorem slicesCols (j : Fin 3) : S1024x75.Slices ![0, 25 * j.val] S1024x25 := by revert j; decide
/-- A chunk of eight frames lies within the rows. -/
theorem slicesChunk (b : Fin 8) : S1024x25.Slices ![128 * b.val, 0] S128x25 := by revert b; decide
/-- A neighbour's row lies within the mask. -/
theorem slicesMask (u : Fin 25) : S25x25.Slices ![u.val, 0] S1x25 := by revert u; decide
/-- A vertex's column lies within the features. -/
theorem slicesCol (u : Fin 25) : S16x25.Slices ![0, u.val] S16x1 := by revert u; decide

/-- Layer `i`'s 16 channels, frames and channels in one axis. -/
def rows (i : Fin 3) (y : FVec F S64x48x25 .bf16) : FVec F S1024x25 .bf16 :=
  shapeCast S1024x25 (extractStridedSlice S64x16x25 ![0, 16 * i.val, 0] y (slicesLayer i)) shapeCasts_S64x16x25_S1024x25

/-- The mean over the frames, as a product with the averaging matrix. -/
def mean (mavg : Vec F S16x1024 .f32) (r : FVec F S1024x25 .bf16) : FVec F S16x25 .f32 :=
  matmul dot_S16x1024_S1024x25_S16x25_1_0_0_1_n_n none
    (shapeCast S16x1024 mavg shapeCasts_S16x1024_S16x1024 : FVec F S16x1024 .f32) r (constant S16x25 .f32 0x00000000#32)

/-- The products with the layer's three vertex matrices, side by side. -/
def spread (pa : Vec F S1x25x75 .f32) (r : FVec F S1024x25 .bf16) : FVec F S1024x75 .f32 :=
  matmul dot_S1024x25_S25x75_S1024x75_1_0_0_1_n_n none r
    (shapeCast S25x75 pa shapeCasts_S1x25x75_S25x75 : FVec F S25x75 .f32) (constant S1024x75 .f32 0x00000000#32)

/-- The columns of vertex matrix `j`. -/
def cols (j : Fin 3) (z : FVec F S1024x75 .f32) : FVec F S1024x25 .f32 :=
  extractStridedSlice S1024x25 ![0, 25 * j.val] z (slicesCols j)

/-- Eight frames' channels mixed by the block matrix. -/
def chunk (w : Vec F S1x1x128x128 .f32) (z : FVec F S1024x25 .f32) (b : Fin 8) : FVec F S16x1x8x25 .f32 :=
  shapeCast S16x1x8x25 (matmul dot_S128x128_S128x25_S128x25_1_0_0_1_n_n none
    (shapeCast S128x128 w shapeCasts_S1x1x128x128_S128x128 : FVec F S128x128 .f32)
    (extractStridedSlice S128x25 ![128 * b.val, 0] z (slicesChunk b) : FVec F S128x25 .f32)
    (constant S128x25 .f32 0x00000000#32)) shapeCasts_S128x25_S16x1x8x25

/-- All frames' channels mixed, channels before frames. -/
def mix (w : Vec F S1x1x128x128 .f32) (z : FVec F S1024x25 .f32) : FVec F S1024x25 .f32 :=
  shapeCast S1024x25 (concatenate S16x8x8x25 1
    [⟨S16x1x8x25, chunk w z 0⟩, ⟨S16x1x8x25, chunk w z 1⟩, ⟨S16x1x8x25, chunk w z 2⟩, ⟨S16x1x8x25, chunk w z 3⟩,
     ⟨S16x1x8x25, chunk w z 4⟩, ⟨S16x1x8x25, chunk w z 5⟩, ⟨S16x1x8x25, chunk w z 6⟩, ⟨S16x1x8x25, chunk w z 7⟩]
    concatenates_S16x1x8x25_S16x1x8x25_S16x1x8x25_S16x1x8x25_S16x1x8x25_S16x1x8x25_S16x1x8x25_S16x1x8x25_S16x8x8x25_d1)
    shapeCasts_S16x8x8x25_S1024x25

/-- Twice the vertices' inner products. -/
def twiceGram (m : FVec F S16x25 .f32) : FVec F S25x25 .f32 :=
  mulf (broadcast S25x25 (Scalar.ofBits .f32 0x40000000#32 : F .f32))
    (matmul dot_S16x25_S16x25_S25x25_0_0_1_1_n_n none m m (constant S25x25 .f32 0x00000000#32))

/-- Each vertex's squared length, along its row. -/
def lengths (m : FVec F S16x25 .f32) : FVec F S25x25 .f32 :=
  broadcastTo S25x25 (shapeCast S25x1
    (multiReduction .add [0] S25 (mulf m m) 0x00000000#32 reduces_S16x25_S25 (.inl rfl) rfl) shapeCasts_S25_S25x1)
    broadcasts_S25x1_S25x25

/-- The scores of row `u` as a neighbour of column `v`. -/
def scores (m : FVec F S16x25 .f32) : FVec F S25x25 .f32 := subf (twiceGram m) (lengths m)

/-- Each column's greatest entry, along the column. -/
def colMax (s : FVec F S25x25 .f32) : FVec F S25x25 .f32 :=
  broadcastTo S25x25 (shapeCast S1x25
    (multiReduction .maximumf [0] S25 s 0xFF800000#32 reduces_S25x25_S25 (.inl rfl) rfl) shapeCasts_S25_S1x25)
    broadcasts_S1x25_S25x25

/-- The number that stands for "not chosen". -/
def masked : F .f32 := Named.named κ "mask" 0xF149F2CA#32

/-- One round: each column's greatest entries struck out. -/
def strike (s : FVec F S25x25 .f32) : FVec F S25x25 .f32 :=
  select (cmpf .oeq s (colMax s)) (broadcast S25x25 (masked : F .f32)) s

/-- The rows that reach the greatest entry left after four rounds. -/
def chosen (s : FVec F S25x25 .f32) : IVec S25x25 1 := cmpf .oge s (colMax (strike (strike (strike (strike s)))))

/-- The neighbours' features. -/
def neigh (wa : Vec F S1x16x16 .f32) (m : FVec F S16x25 .f32) : FVec F S16x25 .f32 :=
  matmul dot_S16x16_S16x25_S16x25_1_0_0_1_n_n none
    (shapeCast S16x16 wa shapeCasts_S1x16x16_S16x16 : FVec F S16x16 .f32) m (constant S16x25 .f32 0x00000000#32)

/-- The vertex's own features and the bias. -/
def own (wb : Vec F S1x16x16 .f32) (bb : Vec F S1x16x1 .f32) (m : FVec F S16x25 .f32) : FVec F S16x25 .f32 :=
  addf (matmul dot_S16x16_S16x25_S16x25_1_0_0_1_n_n none
    (shapeCast S16x16 wb shapeCasts_S1x16x16_S16x16 : FVec F S16x16 .f32) m (constant S16x25 .f32 0x00000000#32))
    (broadcastTo S16x25 (shapeCast S16x1 bb shapeCasts_S1x16x1_S16x1) broadcasts_S16x1_S16x25)

/-- Vertex `u`'s features where it is chosen. -/
def cand (c : IVec S25x25 1) (a : FVec F S16x25 .f32) (u : Fin 25) : FVec F S16x25 .f32 :=
  select
    (broadcastTo S16x25 (shapeCast S1x25 (extractStridedSlice S1x25 ![u.val, 0] c (slicesMask u)) shapeCasts_S1x25_S1x25)
      broadcasts_S1x25_S16x25)
    (broadcastTo S16x25 (shapeCast S16x1 (extractStridedSlice S16x1 ![0, u.val] a (slicesCol u)) shapeCasts_S16x1_S16x1)
      broadcasts_S16x1_S16x25)
    (broadcast S16x25 (masked : F .f32))

/-- The greatest of the chosen vertices' features among vertices `0 … n`. -/
def best (c : IVec S25x25 1) (a : FVec F S16x25 .f32) : (n : ℕ) → n < 25 → FVec F S16x25 .f32
  | 0, h => cand c a ⟨0, h⟩
  | n + 1, h => maximumf (best c a n (Nat.lt_of_succ_lt h)) (cand c a ⟨n + 1, h⟩)

/-- The leaky rectifier. -/
def leak (e : FVec F S16x25 .f32) : FVec F S16x25 .f32 :=
  select (cmpf .ogt e (broadcast S16x25 (Scalar.ofBits .f32 0x00000000#32 : F .f32))) e
    (mulf (broadcast S16x25 (Scalar.ofBits .f32 0x3E4CCCCD#32 : F .f32)) e)

/-- One layer's edge features, from the mean. -/
def edge (wa wb : Vec F S1x16x16 .f32) (bb : Vec F S1x16x1 .f32) (m : FVec F S16x25 .f32) : FVec F S16x25 .f32 :=
  leak (addf (best (chosen (scores m)) (neigh wa m) 24 (by decide)) (own wb bb m))

/-- The blocks' join: the three mixed parts and the edge part, the bias, the residual and the rectifier. -/
def finish (es : FVec F S16x25 .f32) (z0 z1 z2 : FVec F S1024x25 .f32) (se : Vec F S16x1 .f32)
    (x1 : Vec F S1x4096x25 .f32) (bout : Vec F S64x1x1 .f32) : FVec F S1x4096x25 .f32 :=
  shapeCast S1x4096x25 (shapeCast S4096x25 (maximumf
    (addf (addf
      (concatenate S64x64x25 0
        [⟨S16x64x25, shapeCast S16x64x25 z0 shapeCasts_S1024x25_S16x64x25⟩,
         ⟨S16x64x25, shapeCast S16x64x25 z1 shapeCasts_S1024x25_S16x64x25⟩,
         ⟨S16x64x25, shapeCast S16x64x25 z2 shapeCasts_S1024x25_S16x64x25⟩,
         ⟨S16x64x25, broadcastTo S16x64x25 (shapeCast S16x1x25 (shapeCast S16x1x25
            (mulf es (broadcastTo S16x25 (shapeCast S16x1 se shapeCasts_S16x1_S16x1) broadcasts_S16x1_S16x25))
            shapeCasts_S16x25_S16x1x25) shapeCasts_S16x1x25_S16x1x25) broadcasts_S16x1x25_S16x64x25⟩]
        concatenates_S16x64x25_S16x64x25_S16x64x25_S16x64x25_S64x64x25_d0)
      (broadcastTo S64x64x25 (shapeCast S64x1x1 bout shapeCasts_S64x1x1_S64x1x1) broadcasts_S64x1x1_S64x64x25))
      (shapeCast S64x64x25 (shapeCast S4096x25 x1 shapeCasts_S1x4096x25_S4096x25) shapeCasts_S4096x25_S64x64x25))
    (broadcast S64x64x25 (Scalar.ofBits .f32 0x00000000#32 : F .f32))) shapeCasts_S64x64x25_S4096x25)
    shapeCasts_S4096x25_S1x4096x25

/-- The blocks one sample is computed from, other than its own two slabs. -/
structure Weights (F : FTy → Type) where
  wdt : Vec F S64x48 .f32
  bd : Vec F S1x48 .f32
  pa : Fin 3 → Vec F S1x25x75 .f32
  ws : Fin 3 → Fin 3 → Vec F S1x1x128x128 .f32
  mavg : Vec F S16x1024 .f32
  wa : Fin 3 → Vec F S1x16x16 .f32
  wb : Fin 3 → Vec F S1x16x16 .f32
  bb : Fin 3 → Vec F S1x16x1 .f32
  se : Vec F S16x1 .f32
  bout : Vec F S64x1x1 .f32

/-- Layer `i`'s part of mixed block `j`. -/
def part (W : Weights F) (y : FVec F S64x48x25 .bf16) (i j : Fin 3) : FVec F S1024x25 .f32 :=
  mix (W.ws i j) (cols j (spread (W.pa i) (rows i y)))

/-- Mixed block `j`, summed over the layers. -/
def block (W : Weights F) (y : FVec F S64x48x25 .bf16) (j : Fin 3) : FVec F S1024x25 .f32 :=
  addf (addf (part W y 0 j) (part W y 1 j)) (part W y 2 j)

/-- Layer `i`'s edge features. -/
def layerEdge (W : Weights F) (y : FVec F S64x48x25 .bf16) (i : Fin 3) : FVec F S16x25 .f32 :=
  edge (W.wa i) (W.wb i) (W.bb i) (mean W.mavg (rows i y))

/-- The edge features, summed over the layers. -/
def edges (W : Weights F) (y : FVec F S64x48x25 .bf16) : FVec F S16x25 .f32 :=
  addf (addf (layerEdge W y 0) (layerEdge W y 1)) (layerEdge W y 2)

/-- One sample's output slab. -/
def sample (W : Weights F) (v0 : Vec F S1x64x1600 .f32) (x1 : Vec F S1x4096x25 .f32) : FVec F S1x4096x25 .f32 :=
  finish (edges W (down v0 W.wdt W.bd)) (block W (down v0 W.wdt W.bd) 0) (block W (down v0 W.wdt W.bd) 1)
    (block W (down v0 W.wdt W.bd) 2) W.se x1 W.bout

end Cert.Body

end
-- ==== Proof.Bridge.lean ====
/- The kernel's output block is the body's samples, side by side. -/
module

public import proofs.«01_k».proof.Proof.Gen.KernelIdeal.Frame
public import proofs.«01_k».proof.Proof.Body

@[expose] public section

noncomputable section

namespace Cert.Body

open Idealize.ShloMosaic Cert.KernelIdeal Cert.KernelIdeal.Gen

variable {F : FTy → Type} [FloatOps F] [Named F]

/-- A sample's inputs lie within their block. -/
theorem inbX (s : Fin 4) : ∀ a : Fin 3, (![s.val, 0, 0] : Fin 3 → ℕ) a + S1x64x1600.size a ≤ S4x64x1600.size a := by revert s; decide
/-- A sample's slab lies within its block. -/
theorem inbR (s : Fin 4) : ∀ a : Fin 3, (![s.val, 0, 0] : Fin 3 → ℕ) a + S1x4096x25.size a ≤ S4x4096x25.size a := by revert s; decide
/-- A layer's adjacency matrices lie within their block. -/
theorem inbPa (i : Fin 3) : ∀ a : Fin 3, (![i.val, 0, 0] : Fin 3 → ℕ) a + S1x25x75.size a ≤ S3x25x75.size a := by revert i; decide
/-- A layer's edge weights lie within their block. -/
theorem inbW (i : Fin 3) : ∀ a : Fin 3, (![i.val, 0, 0] : Fin 3 → ℕ) a + S1x16x16.size a ≤ S3x16x16.size a := by revert i; decide
/-- A layer's edge biases lie within their block. -/
theorem inbB (i : Fin 3) : ∀ a : Fin 3, (![i.val, 0, 0] : Fin 3 → ℕ) a + S1x16x1.size a ≤ S3x16x1.size a := by revert i; decide
/-- A mixing matrix lies within its block. -/
theorem inbWs (i j : Fin 3) : ∀ a : Fin 4, (![i.val, j.val, 0, 0] : Fin 4 → ℕ) a + S1x1x128x128.size a ≤ S3x3x128x128.size a := by
  revert i j; decide

/-- Sample `s`'s slab of an output or residual block. -/
abbrev slabRect (s : Fin 4) : Rect S4x4096x25 := Rect.unit (s := S4x4096x25) ![s.val, 0, 0] S1x4096x25.size (inbR s)

/-- Sample `s`'s slab of the block of inputs. -/
abbrev slabX (x0 : Vec F S4x64x1600 .f32) (s : Fin 4) : Vec F S1x64x1600 .f32 :=
  View.ld x0 (Rect.unit (s := S4x64x1600) ![s.val, 0, 0] S1x64x1600.size (inbX s))

/-- The weights as loaded from their blocks. -/
def weights (x2 : Vec F S64x48 .f32) (x3 : Vec F S1x48 .f32) (x4 : Vec F S3x25x75 .f32) (x5 : Vec F S3x3x128x128 .f32)
    (x6 : Vec F S16x1024 .f32) (x7 : Vec F S3x16x16 .f32) (x8 : Vec F S3x16x16 .f32) (x9 : Vec F S3x16x1 .f32)
    (x10 : Vec F S16x1 .f32) (x11 : Vec F S64x1x1 .f32) : Weights F where
  wdt := View.ld x2 r0_1
  bd := View.ld x3 r0_2
  pa i := View.ld x4 (Rect.unit (s := S3x25x75) ![i.val, 0, 0] S1x25x75.size (inbPa i))
  ws i j := View.ld x5 (Rect.unit (s := S3x3x128x128) ![i.val, j.val, 0, 0] S1x1x128x128.size (inbWs i j))
  mavg := View.ld x6 r0_3
  wa i := View.ld x7 (Rect.unit (s := S3x16x16) ![i.val, 0, 0] S1x16x16.size (inbW i))
  wb i := View.ld x8 (Rect.unit (s := S3x16x16) ![i.val, 0, 0] S1x16x16.size (inbW i))
  bb i := View.ld x9 (Rect.unit (s := S3x16x1) ![i.val, 0, 0] S1x16x1.size (inbB i))
  se := View.ld x10 r0_22
  bout := View.ld x11 r0_24

set_option maxHeartbeats 0 in
set_option maxRecDepth 100000 in
/-- The output block is four stores, the last sample's the latest. -/
theorem out_eq (x0 : Vec F S4x64x1600 .f32) (x1 : Vec F S4x4096x25 .f32) (x2 : Vec F S64x48 .f32) (x3 : Vec F S1x48 .f32)
    (x4 : Vec F S3x25x75 .f32) (x5 : Vec F S3x3x128x128 .f32)
    (x6 : Vec F S16x1024 .f32) (x7 : Vec F S3x16x16 .f32) (x8 : Vec F S3x16x16 .f32) (x9 : Vec F S3x16x1 .f32)
    (x10 : Vec F S16x1 .f32) (x11 : Vec F S64x1x1 .f32) :
    out0_12 x0 x1 x2 x3 x4 x5 x6 x7 x8 x9 x10 x11 =
      View.canon [
        ⟨slabRect 3, sample (weights x2 x3 x4 x5 x6 x7 x8 x9 x10 x11) (slabX x0 3) (View.ld x1 (slabRect 3))⟩,
        ⟨slabRect 2, sample (weights x2 x3 x4 x5 x6 x7 x8 x9 x10 x11) (slabX x0 2) (View.ld x1 (slabRect 2))⟩,
        ⟨slabRect 1, sample (weights x2 x3 x4 x5 x6 x7 x8 x9 x10 x11) (slabX x0 1) (View.ld x1 (slabRect 1))⟩,
        ⟨slabRect 0, sample (weights x2 x3 x4 x5 x6 x7 x8 x9 x10 x11) (slabX x0 0) (View.ld x1 (slabRect 0))⟩] :=
  rfl

end Cert.Body

end
-- ==== Proof.Stage.lean ====
/- The convolutions of one sample, read at an index, on blocks that hold reals. -/
module

public import proofs.«01_k».proof.Proof.Body
public import proofs.«01_k».proof.Proof.Index

@[expose] public section

noncomputable section

namespace Cert.Stage

open Idealize.ShloMosaic Idealize.ShloMosaic.ValueIdx Cert.KernelIdeal Cert.KernelIdeal.Gen Cert.Body Cert.Index

/-- The first convolution with its bias and rectifier. -/
theorem down_apply (v0 : Vec Ideal S1x64x1600 .f32) (wdt : Vec Ideal S64x48 .f32) (bd : Vec Ideal S1x48 .f32)
    (X : Fin 64 → Fin 64 → Fin 25 → ℝ) (w : Fin 64 → Fin 48 → ℝ) (b : Fin 48 → ℝ)
    (hx : ∀ c t v, v0 (ix3 0 c (tv t v)) = ((X c t v : ℝ) : EReal)) (hw : ∀ c k, wdt (ix2 c k) = ((w c k : ℝ) : EReal))
    (hb : ∀ k, bd (ix2 0 k) = ((b k : ℝ) : EReal)) (t : Fin 64) (k : Fin 48) (v : Fin 25) :
    down v0 wdt bd (ix3 t k v) = ((max ((∑ c, X c t v * w c k) + b k) 0 : ℝ) : EReal) := by
  unfold down
  refine (transpose_apply _ _ _ (ix3 t k v) (ix3 t v k) (by intro a; fin_cases a <;> rfl)).trans ?_
  refine (shapeCast_apply _ _ (ix3 t v k) (ix2 (tv t v) k) ?_).trans ?_
  · refine (rm2 _ _).trans (Eq.trans ?_ (rm3 _ _ _).symm)
    simp only [tv]; omega
  refine Eq.trans (b := max (_ + _) _) rfl ?_
  rw [coe_max, EReal.coe_add]
  refine congrArg₂ max (congrArg₂ (· + ·) ?_ ?_) ?_
  · refine mm _ _ (tv t v) k _ _ (fun c => ?_) (fun c => ?_)
    · refine (transpose_apply _ _ _ (ix2 (tv t v) c) (ix2 c (tv t v)) (by intro a; fin_cases a <;> rfl)).trans ?_
      refine Eq.trans ?_ (hx c t v)
      refine (shapeCast_apply v0 shapeCasts_S1x64x1600_S64x1600 (ix2 c (tv t v)) (ix3 0 c (tv t v)) ?_)
      refine (rm3 _ _ _).trans (Eq.trans ?_ (rm2 _ _).symm)
      simp
    · refine Eq.trans (shapeCast_apply _ _ (ix2 c k) (ix2 c k) rfl) (hw c k)
  · refine (broadcastTo_apply _ _ (ix2 (tv t v) k) (ix2 0 k) (by intro a; fin_cases a <;> rfl)).trans ?_
    exact Eq.trans (shapeCast_apply _ _ (ix2 0 k) (ix2 0 k) rfl) (hb k)
  · exact Ideal.ofBits_zero_f32

/-- A layer's channels, frames and channels in one axis. -/
theorem rows_apply (i : Fin 3) (y : FVec Ideal S64x48x25 .bf16) (t : Fin 64) (c : Fin 16) (v : Fin 25) :
    rows i y (ix2 (tc t c) v) = y (ix3 t (lo i c) v) := by
  unfold rows
  refine (shapeCast_apply _ _ (ix2 (tc t c) v) (ix3 t c v) ?_).trans ?_
  · refine (rm3 _ _ _).trans (Eq.trans ?_ (rm2 _ _).symm)
    simp only [tc]; omega
  · exact extractStridedSlice_apply _ _ _ (ix3 t c v) (ix3 t (lo i c) v) (by intro a; fin_cases a <;> simp [lo, ix3])

/-- The mean over the frames. -/
theorem mean_apply (mavg : Vec Ideal S16x1024 .f32) (i : Fin 3) (y : FVec Ideal S64x48x25 .bf16)
    (Y : Fin 64 → Fin 48 → Fin 25 → ℝ) (hy : ∀ t k v, y (ix3 t k v) = ((Y t k v : ℝ) : EReal))
    (hm : ∀ k t c, mavg (ix2 k (tc t c)) = (((if k = c then 1 / 64 else 0 : ℝ)) : EReal)) (k : Fin 16) (v : Fin 25) :
    mean mavg (rows i y) (ix2 k v) = (((∑ t, Y t (lo i k) v) / 64 : ℝ) : EReal) := by
  unfold mean
  have hM : ∀ r : Fin 1024, (shapeCast S16x1024 mavg shapeCasts_S16x1024_S16x1024 : FVec Ideal S16x1024 .f32) (ix2 k r)
      = ((if k.val = r.val % 16 then 1 / 64 else 0 : ℝ) : EReal) := by
    intro r
    refine (shapeCast_apply _ _ (ix2 k r) (ix2 k r) rfl).trans ?_
    obtain ⟨t, c, rfl⟩ := tc_surj r
    rw [hm]
    have : (k = c) ↔ (k.val = (tc t c).val % 16) := by
      rw [Fin.ext_iff]; simp only [tc]; omega
    simp only [this]
  have hR : ∀ r : Fin 1024, rows i y (ix2 r v)
      = ((Y ⟨r.val / 16, by omega⟩ (lo i ⟨r.val % 16, by omega⟩) v : ℝ) : EReal) := by
    intro r
    obtain ⟨t, c, rfl⟩ := tc_surj r
    rw [rows_apply, hy]
    have e1 : (⟨(tc t c).val / 16, by omega⟩ : Fin 64) = t := Fin.ext (by simp only [tc]; omega)
    have e2 : (⟨(tc t c).val % 16, by omega⟩ : Fin 16) = c := Fin.ext (by simp only [tc]; omega)
    rw [e1, e2]
  refine (mm _ _ k v _ _ hM hR).trans (congrArg _ ?_)
  rw [sum_tc, Finset.sum_div]
  refine Finset.sum_congr rfl fun t _ => ?_
  rw [Finset.sum_eq_single k]
  · have e1 : (⟨(tc t k).val / 16, by omega⟩ : Fin 64) = t := Fin.ext (by simp only [tc]; omega)
    have e2 : (⟨(tc t k).val % 16, by omega⟩ : Fin 16) = k := Fin.ext (by simp only [tc]; omega)
    rw [e1, e2, if_pos (by simp only [tc]; omega)]
    ring
  · intro c _ hc
    rw [if_neg, zero_mul]
    intro h
    exact hc (Fin.ext (by simp only [tc] at h; omega))
  · intro h; exact absurd (Finset.mem_univ k) h

/-- The product with one of a layer's vertex matrices. -/
theorem cols_apply (pa : Vec Ideal S1x25x75 .f32) (i j : Fin 3) (y : FVec Ideal S64x48x25 .bf16)
    (Y : Fin 64 → Fin 48 → Fin 25 → ℝ) (hy : ∀ t k v, y (ix3 t k v) = ((Y t k v : ℝ) : EReal))
    (p : Fin 25 → Fin 25 → ℝ) (hp : ∀ u v, pa (ix3 0 u (jv j v)) = ((p v u : ℝ) : EReal)) (t : Fin 64) (c : Fin 16) (v : Fin 25) :
    cols j (spread pa (rows i y)) (ix2 (tc t c) v) = ((∑ u, Y t (lo i c) u * p v u : ℝ) : EReal) := by
  unfold cols spread
  refine (extractStridedSlice_apply _ _ _ (ix2 (tc t c) v) (ix2 (tc t c) (jv j v)) ?_).trans ?_
  · intro a; fin_cases a <;> simp [jv, ix2]
  refine mm _ _ (tc t c) (jv j v) _ _ (fun u => ?_) (fun u => ?_)
  · rw [rows_apply, hy]
  · refine Eq.trans (shapeCast_apply pa shapeCasts_S1x25x75_S25x75 (ix2 u (jv j v)) (ix3 0 u (jv j v)) ?_) (hp u v)
    refine (rm3 _ _ _).trans (Eq.trans ?_ (rm2 _ _).symm)
    simp

/-- The mixing of the channels, by a block matrix that holds the same 16 by 16 matrix for each of eight frames. -/
theorem mix_apply (w : Vec Ideal S1x1x128x128 .f32) (z : FVec Ideal S1024x25 .f32) (V : Fin 16 → Fin 16 → ℝ)
    (hw : ∀ o c a b, w (ix4 0 0 (oa o a) (ac b c)) = ((if a = b then V o c else 0 : ℝ) : EReal))
    (Z : Fin 64 → Fin 16 → Fin 25 → ℝ) (hz : ∀ t c v, z (ix2 (tc t c) v) = ((Z t c v : ℝ) : EReal))
    (o : Fin 16) (t : Fin 64) (v : Fin 25) :
    mix w z (ix2 (ot o t) v) = ((∑ c, V o c * Z t c v : ℝ) : EReal) := by
  obtain ⟨b, a, rfl⟩ : ∃ b a, t = ba b a :=
    ⟨⟨t.val / 8, by omega⟩, ⟨t.val % 8, by omega⟩, Fin.ext (by simp only [ba]; omega)⟩
  unfold mix
  refine (shapeCast_apply _ _ (ix2 (ot o (ba b a)) v) (ix4 o b a v) ?_).trans ?_
  · refine (rm4 _ _ _ _).trans (Eq.trans ?_ (rm2 _ _).symm)
    simp only [ot, ba]; omega
  refine (concatenate_ofFn_apply (s₁ := S16x1x8x25) 1 (fun n : Fin 8 => chunk w z n)
    concatenates_S16x1x8x25_S16x1x8x25_S16x1x8x25_S16x1x8x25_S16x1x8x25_S16x1x8x25_S16x1x8x25_S16x1x8x25_S16x8x8x25_d1
    rfl 1 rfl (ix4 o b a v) b (by simp [ix4]) (ix4 o 0 a v) (by simp [ix4]; omega)
    (by intro d hd; fin_cases d <;> first | rfl | exact absurd rfl hd)).trans ?_
  unfold chunk
  refine (shapeCast_apply _ _ (ix4 o 0 a v) (ix2 (oa o a) v) ?_).trans ?_
  · refine (rm2 _ _).trans (Eq.trans ?_ (rm4 _ _ _ _).symm)
    simp only [oa]; simp; omega
  have hW : ∀ r : Fin 128, (shapeCast S128x128 w shapeCasts_S1x1x128x128_S128x128 : FVec Ideal S128x128 .f32) (ix2 (oa o a) r)
      = ((if a.val = r.val / 16 then V o ⟨r.val % 16, by omega⟩ else 0 : ℝ) : EReal) := by
    intro r
    refine (shapeCast_apply w shapeCasts_S1x1x128x128_S128x128 (ix2 (oa o a) r) (ix4 0 0 (oa o a) r) ?_).trans ?_
    · refine (rm4 _ _ _ _).trans (Eq.trans ?_ (rm2 _ _).symm)
      simp
    obtain ⟨a', c, rfl⟩ := ac_surj r
    rw [hw]
    have e1 : (a = a') ↔ (a.val = (ac a' c).val / 16) := by
      rw [Fin.ext_iff]; simp only [ac]; omega
    have e2 : (⟨(ac a' c).val % 16, by omega⟩ : Fin 16) = c := Fin.ext (by simp only [ac]; omega)
    simp only [e1, e2]
  have hZ : ∀ r : Fin 128, (extractStridedSlice S128x25 ![128 * b.val, 0] z (slicesChunk b) : FVec Ideal S128x25 .f32) (ix2 r v)
      = ((Z (ba b ⟨r.val / 16, by omega⟩) ⟨r.val % 16, by omega⟩ v : ℝ) : EReal) := by
    intro r
    rw [← hz]
    refine extractStridedSlice_apply _ _ _ (ix2 r v) (ix2 _ v) ?_
    intro d; fin_cases d
    · simp [ix2, tc, ba]; omega
    · simp [ix2]
  refine (mm _ _ (oa o a) v _ _ hW hZ).trans (congrArg _ ?_)
  rw [sum_ac, Finset.sum_eq_single a]
  · refine Finset.sum_congr rfl fun c _ => ?_
    have e1 : (⟨(ac a c).val / 16, by omega⟩ : Fin 8) = a := Fin.ext (by simp only [ac]; omega)
    have e2 : (⟨(ac a c).val % 16, by omega⟩ : Fin 16) = c := Fin.ext (by simp only [ac]; omega)
    rw [e1, e2, if_pos (by simp only [ac]; omega)]
  · intro a' _ ha
    refine Finset.sum_eq_zero fun c _ => ?_
    rw [if_neg, zero_mul]
    intro h
    exact ha (Fin.ext (by simp only [ac] at h; omega))
  · intro h; exact absurd (Finset.mem_univ a) h

end Cert.Stage

end
-- ==== Proof.Edge.lean ====
/- The edge features of one sample, read at an index, on means that are reals. -/
module

public import proofs.«01_k».proof.Proof.Stage
public import proofs.«01_k».proof.Proof.Select

@[expose] public section

noncomputable section

namespace Cert.Stage

open Idealize.ShloMosaic Idealize.ShloMosaic.ValueIdx Cert.KernelIdeal Cert.KernelIdeal.Gen Cert.Body Cert.Index

/-- The number that stands for "not chosen" is minus infinity. -/
theorem masked_eq : (masked : Ideal .f32) = (⊥ : EReal) := IdealRules.named_const.ideal_named_scalar _ _ _ _ rfl

/-- The word of two. -/
theorem two_eq : Ideal.ofBits .f32 0x40000000#32 = ((2 : ℝ) : EReal) := by
  simp [Ideal.ofBits, Ideal.ieee, -EReal.coe_mul]; norm_num

/-- The slope of the leaky rectifier, as the word spells it. -/
def slope : ℝ := 13421773 / 67108864

/-- The word of the slope. -/
theorem slope_eq : Ideal.ofBits .f32 0x3E4CCCCD#32 = ((slope : ℝ) : EReal) := by
  simp [Ideal.ofBits, Ideal.ieee, slope, -EReal.coe_mul]; norm_num

/-- The scores of row `u` as a neighbour of column `v`: twice the product less the row's squared length. -/
theorem scores_apply (m : FVec Ideal S16x25 .f32) (M : Fin 16 → Fin 25 → ℝ)
    (hm : ∀ k v, m (ix2 k v) = ((M k v : ℝ) : EReal)) (u v : Fin 25) :
    scores m (ix2 u v) = ((2 * (∑ k, M k u * M k v) - ∑ k, M k u * M k u : ℝ) : EReal) := by
  unfold scores
  rw [subf_apply, EReal.coe_sub]
  refine congrArg₂ (· - ·) ?_ ?_
  · unfold twiceGram
    rw [mulf_apply, EReal.coe_mul]
    refine congrArg₂ (· * ·) two_eq ?_
    let D := dot_S16x25_S16x25_S25x25_0_0_1_1_n_n
    refine (Ideal.matmul_constant_zero_apply D none m m (ix2 u v)).trans ?_
    rw [← Equiv.sum_comp (contrEquiv1 D 16 rfl rfl).symm]
    refine Eq.trans (Finset.sum_congr rfl fun k _ => ?_)
      (sum_mul_coe (fun k => m (ix2 k u)) (fun k => m (ix2 k v)) _ _ (fun k => hm k u) (fun k => hm k v))
    have hk := contrEquiv1_symm_val D 16 rfl rfl k
    have el : D.lhsIdx (ix2 u v) ((contrEquiv1 D 16 rfl rfl).symm k) = ix2 k u := by
      funext a; apply Fin.ext
      match a with
      | ⟨0, _⟩ => exact hk
      | ⟨1, _⟩ => rfl
    have er : D.rhsIdx (ix2 u v) ((contrEquiv1 D 16 rfl rfl).symm k) = ix2 k v := by
      funext a; apply Fin.ext
      match a with
      | ⟨0, _⟩ => exact hk
      | ⟨1, _⟩ => rfl
    rw [el, er]
  · unfold lengths
    refine (broadcastTo_apply _ _ (ix2 u v) (ix2 u 0) (by intro a; fin_cases a <;> rfl)).trans ?_
    refine (shapeCast_apply _ _ (ix2 u 0) (ix1 u) ?_).trans ?_
    · refine (rm1 _).trans (Eq.trans ?_ (rm2 _ _).symm)
      simp
    refine (Ideal.multiReduction_add_single _ _ _ _ _ (ix1 u)).trans ?_
    refine Eq.trans (Finset.sum_congr rfl fun k _ => ?_)
      (sum_mul_coe (fun k => m (ix2 k u)) (fun k => m (ix2 k u)) _ _ (fun k => hm k u) (fun k => hm k u))
    have e : reduces_S16x25_S25.lift (ix1 u) k = ix2 k u := by
      funext a; apply Fin.ext
      match a with
      | ⟨0, _⟩ => rfl
      | ⟨1, _⟩ => rfl
    rw [e]
    rfl

/-- A column's greatest entry. -/
theorem colMax_apply (s : FVec Ideal S25x25 .f32) (u v : Fin 25) :
    colMax s (ix2 u v) = Finset.univ.sup (fun u' => (s (ix2 u' v) : EReal)) := by
  unfold colMax
  refine (broadcastTo_apply _ _ (ix2 u v) (ix2 0 v) (by intro a; fin_cases a <;> rfl)).trans ?_
  refine (shapeCast_apply _ _ (ix2 0 v) (ix1 v) ?_).trans ?_
  · refine (rm1 _).trans (Eq.trans ?_ (rm2 _ _).symm)
    simp
  refine (Ideal.multiReduction_maximumf_single _ _ _ _ _ (ix1 v)).trans ?_
  have hb : (FloatOps.ofBits .f32 0xFF800000#32 : Ideal .f32) = (⊥ : EReal) := by
    show Ideal.ofBits .f32 0xFF800000#32 = ⊥
    simp [Ideal.ofBits, Ideal.ieee]
  rw [hb]
  refine congrArg (Finset.fold max (⊥ : EReal) · Finset.univ) (funext fun u' => ?_)
  refine congrArg s ?_
  funext a; apply Fin.ext
  match a with
  | ⟨0, _⟩ => rfl
  | ⟨1, _⟩ => rfl

/-- One round of striking, column by column. -/
theorem strike_apply (s : FVec Ideal S25x25 .f32) (u v : Fin 25) :
    Body.strike s (ix2 u v) = Select.strike (fun u' => (s (ix2 u' v) : EReal)) u := by
  unfold Body.strike Select.strike
  rw [select_apply, cmpf_apply, broadcast_apply, colMax_apply, masked_eq, Ideal.cmpf_def]
  by_cases h : (s (ix2 u v) : EReal) = Finset.univ.sup (fun u' => (s (ix2 u' v) : EReal))
  · rw [if_pos h]
    have : Ideal.cmp .oeq (s (ix2 u v)) (Finset.univ.sup (fun u' => (s (ix2 u' v) : EReal))) = 1#1 := by
      unfold Ideal.cmp; rw [decide_eq_true h]; rfl
    rw [this, select_one]
  · rw [if_neg h]
    have : Ideal.cmp .oeq (s (ix2 u v)) (Finset.univ.sup (fun u' => (s (ix2 u' v) : EReal))) = 0#1 := by
      unfold Ideal.cmp; rw [decide_eq_false h]; rfl
    rw [this, select_zero]

/-- What four rounds leave of a column. -/
theorem strike4_apply (s : FVec Ideal S25x25 .f32) (v : Fin 25) :
    (fun u => (Body.strike (Body.strike (Body.strike (Body.strike s))) (ix2 u v) : EReal))
      = Select.strike (Select.strike (Select.strike (Select.strike fun u => (s (ix2 u v) : EReal)))) := by
  have h (s : FVec Ideal S25x25 .f32) : (fun u => (Body.strike s (ix2 u v) : EReal))
      = Select.strike fun u => (s (ix2 u v) : EReal) := funext fun u => strike_apply s u v
  rw [h, h, h, h]

/-- A row is chosen for a column exactly when its rank among the column's scores is below five. -/
theorem chosen_apply (s : FVec Ideal S25x25 .f32) (v : Fin 25) (f : Fin 25 → ℝ)
    (hs : ∀ u, s (ix2 u v) = ((f u : ℝ) : EReal)) (σ : Equiv.Perm (Fin 25)) (h : Select.Ranks f σ) (u : Fin 25) :
    chosen s (ix2 u v) = if (σ.symm u).val < 5 then 1#1 else 0#1 := by
  unfold chosen
  rw [cmpf_apply, colMax_apply, strike4_apply, Ideal.cmpf_def]
  have e : (fun u => (s (ix2 u v) : EReal)) = fun u => ((f u : ℝ) : EReal) := funext hs
  rw [e, hs]
  unfold Ideal.cmp
  simp only [Select.reaches_iff h]
  split_ifs with hu
  · rw [decide_eq_true hu]; rfl
  · rw [decide_eq_false hu]; rfl

/-- A vertex's features where it is chosen. -/
theorem cand_apply (c : IVec S25x25 1) (a : FVec Ideal S16x25 .f32) (u : Fin 25) (k : Fin 16) (v : Fin 25) :
    cand c a u (ix2 k v) = Scalar.select (c (ix2 u v)) (a (ix2 k u) : EReal) ⊥ := by
  unfold cand
  rw [select_apply, broadcast_apply, masked_eq]
  refine congrArg₂ (fun p q => Scalar.select p q (⊥ : EReal)) ?_ ?_
  · refine (broadcastTo_apply _ _ (ix2 k v) (ix2 0 v) (by intro a; fin_cases a <;> rfl)).trans ?_
    refine (shapeCast_apply _ _ (ix2 0 v) (ix2 0 v) rfl).trans ?_
    exact extractStridedSlice_apply _ _ _ (ix2 0 v) (ix2 u v) (by intro a; fin_cases a <;> simp [ix2])
  · refine (broadcastTo_apply _ _ (ix2 k v) (ix2 k 0) (by intro a; fin_cases a <;> rfl)).trans ?_
    refine (shapeCast_apply _ _ (ix2 k 0) (ix2 k 0) rfl).trans ?_
    exact extractStridedSlice_apply _ _ _ (ix2 k 0) (ix2 k u) (by intro a; fin_cases a <;> simp [ix2])

/-- The greatest of the chosen vertices' features among vertices `0 … n`. -/
theorem best_apply (c : IVec S25x25 1) (a : FVec Ideal S16x25 .f32) (k : Fin 16) (v : Fin 25) (n : ℕ) (hn : n < 25) :
    best c a n hn (ix2 k v)
      = (Finset.univ.filter (fun u : Fin 25 => u.val ≤ n)).sup (fun u => (cand c a u (ix2 k v) : EReal)) := by
  induction n with
  | zero =>
    have : (Finset.univ.filter (fun u : Fin 25 => u.val ≤ 0)) = {⟨0, hn⟩} := by
      ext u
      rw [Finset.mem_filter, Finset.mem_singleton, Fin.ext_iff]
      exact ⟨fun h => Nat.le_zero.mp h.2, fun h => ⟨Finset.mem_univ u, le_of_eq h⟩⟩
    rw [this, Finset.sup_singleton]
    rfl
  | succ n ih =>
    have : (Finset.univ.filter (fun u : Fin 25 => u.val ≤ n + 1))
        = insert ⟨n + 1, hn⟩ (Finset.univ.filter (fun u : Fin 25 => u.val ≤ n)) := by
      ext u
      rw [Finset.mem_insert, Finset.mem_filter, Finset.mem_filter, Fin.ext_iff]
      exact ⟨fun h => by rcases Nat.lt_or_ge u.val (n + 1) with h' | h'
                         · exact .inr ⟨Finset.mem_univ u, by omega⟩
                         · exact .inl (le_antisymm h.2 h'),
        fun h => ⟨Finset.mem_univ u, by rcases h with h | h
                                        · exact le_of_eq h
                                        · exact Nat.le_succ_of_le h.2⟩⟩
    rw [this, Finset.sup_insert, ← ih (Nat.lt_of_succ_lt hn), sup_comm]
    rfl

/-- The leaky rectifier. -/
theorem leak_apply (e : FVec Ideal S16x25 .f32) (k : Fin 16) (v : Fin 25) (y : ℝ) (h : e (ix2 k v) = ((y : ℝ) : EReal)) :
    leak e (ix2 k v) = ((Select.leaky slope y : ℝ) : EReal) := by
  unfold leak Select.leaky
  rw [select_apply, cmpf_apply, broadcast_apply, mulf_apply, broadcast_apply, h, Ideal.cmpf_def]
  have h0 : (Scalar.ofBits .f32 0x00000000#32 : Ideal .f32) = ((0 : ℝ) : EReal) := Ideal.ofBits_zero_f32
  have hs : (Scalar.ofBits .f32 0x3E4CCCCD#32 : Ideal .f32) = ((slope : ℝ) : EReal) := slope_eq
  rw [h0, hs]
  unfold Ideal.cmp
  simp only [EReal.coe_lt_coe_iff]
  split_ifs with hy
  · rw [decide_eq_true hy]; rfl
  · rw [decide_eq_false hy, EReal.coe_mul]; rfl

/-- One layer's edge features: the leaky rectifier of the greatest of the five nearest vertices' features, plus the
    vertex's own. -/
theorem edge_apply (wa wb : Vec Ideal S1x16x16 .f32) (bb : Vec Ideal S1x16x1 .f32) (m : FVec Ideal S16x25 .f32)
    (M : Fin 16 → Fin 25 → ℝ) (hm : ∀ k v, m (ix2 k v) = ((M k v : ℝ) : EReal))
    (A B : Fin 16 → Fin 16 → ℝ) (b : Fin 16 → ℝ) (ha : ∀ o k, wa (ix3 0 o k) = ((A o k : ℝ) : EReal))
    (hB : ∀ o k, wb (ix3 0 o k) = ((B o k : ℝ) : EReal)) (hb : ∀ o, bb (ix3 0 o 0) = ((b o : ℝ) : EReal))
    (v : Fin 25) (σ : Equiv.Perm (Fin 25))
    (h : Select.Ranks (fun u => 2 * (∑ k, M k u * M k v) - ∑ k, M k u * M k u) σ) (o : Fin 16) :
    edge wa wb bb m (ix2 o v)
      = ((Select.leaky slope (Finset.univ.sup' Finset.univ_nonempty (fun k : Fin 5 => ∑ c, A o c * M c (Select.five σ k))
          + ((∑ c, B o c * M c v) + b o)) : ℝ) : EReal) := by
  unfold edge
  refine leak_apply _ o v _ ?_
  rw [addf_apply, EReal.coe_add, EReal.coe_add]
  have hN : ∀ u, neigh wa m (ix2 o u) = ((∑ c, A o c * M c u : ℝ) : EReal) := by
    intro u
    unfold neigh
    refine mm _ _ o u _ _ (fun c => ?_) (fun c => hm c u)
    refine Eq.trans (shapeCast_apply wa shapeCasts_S1x16x16_S16x16 (ix2 o c) (ix3 0 o c) ?_) (ha o c)
    refine (rm3 _ _ _).trans (Eq.trans ?_ (rm2 _ _).symm)
    simp
  refine congrArg₂ (· + ·) ?_ ?_
  · rw [best_apply, ← Select.sup_masked σ (fun u => ∑ c, A o c * M c u)]
    have hf : (Finset.univ.filter (fun u : Fin 25 => u.val ≤ 24)) = Finset.univ := by
      ext u; simp; omega
    rw [hf]
    refine congrArg (Finset.sup Finset.univ) (funext fun u => ?_)
    rw [cand_apply, chosen_apply _ v _ (fun u => scores_apply m M hm u v) σ h u]
    split_ifs with hu
    · rw [select_one]; exact hN u
    · rw [select_zero]
  · unfold own
    rw [addf_apply]
    refine congrArg₂ (· + ·) ?_ ?_
    · refine mm _ _ o v _ _ (fun c => ?_) (fun c => hm c v)
      refine Eq.trans (shapeCast_apply wb shapeCasts_S1x16x16_S16x16 (ix2 o c) (ix3 0 o c) ?_) (hB o c)
      refine (rm3 _ _ _).trans (Eq.trans ?_ (rm2 _ _).symm)
      simp
    · refine (broadcastTo_apply _ _ (ix2 o v) (ix2 o 0) (by intro a; fin_cases a <;> rfl)).trans ?_
      refine Eq.trans (shapeCast_apply bb shapeCasts_S1x16x1_S16x1 (ix2 o 0) (ix3 0 o 0) ?_) (hb o)
      refine (rm3 _ _ _).trans (Eq.trans ?_ (rm2 _ _).symm)
      simp

end Cert.Stage

end
-- ==== Proof.Sample.lean ====
/- One sample's slab, read at an index, on blocks that hold reals. -/
module

public import proofs.«01_k».proof.Proof.Edge

@[expose] public section

noncomputable section

namespace Cert.Stage

open Idealize.ShloMosaic Idealize.ShloMosaic.ValueIdx Cert.KernelIdeal Cert.KernelIdeal.Gen Cert.Body Cert.Index

/-- The real numbers behind the blocks of weights. -/
structure Reals where
  w : Fin 64 → Fin 48 → ℝ
  b : Fin 48 → ℝ
  pa : Fin 3 → Fin 3 → Fin 25 → Fin 25 → ℝ
  ws : Fin 3 → Fin 3 → Fin 16 → Fin 16 → ℝ
  wa : Fin 3 → Fin 16 → Fin 16 → ℝ
  wb : Fin 3 → Fin 16 → Fin 16 → ℝ
  bb : Fin 3 → Fin 16 → ℝ
  se : Fin 16 → ℝ
  bout : Fin 64 → ℝ

/-- The blocks of weights hold these numbers: the mixing matrices once for each of eight frames, the averaging matrix a
    64th at each channel's own positions. -/
structure Holds (W : Weights Ideal) (w : Reals) : Prop where
  wdt : ∀ c k, W.wdt (ix2 c k) = ((w.w c k : ℝ) : EReal)
  bd : ∀ k, W.bd (ix2 0 k) = ((w.b k : ℝ) : EReal)
  pa : ∀ i j u v, W.pa i (ix3 0 u (jv j v)) = ((w.pa i j v u : ℝ) : EReal)
  ws : ∀ i j o c a b, W.ws i j (ix4 0 0 (oa o a) (ac b c)) = ((if a = b then w.ws i j o c else 0 : ℝ) : EReal)
  mavg : ∀ k t c, W.mavg (ix2 k (tc t c)) = ((if k = c then 1 / 64 else 0 : ℝ) : EReal)
  wa : ∀ i o c, W.wa i (ix3 0 o c) = ((w.wa i o c : ℝ) : EReal)
  wb : ∀ i o c, W.wb i (ix3 0 o c) = ((w.wb i o c : ℝ) : EReal)
  bb : ∀ i o, W.bb i (ix3 0 o 0) = ((w.bb i o : ℝ) : EReal)
  se : ∀ o, W.se (ix2 o 0) = ((w.se o : ℝ) : EReal)
  bout : ∀ c, W.bout (ix3 c 0 0) = ((w.bout c : ℝ) : EReal)

/-- The rectified first convolution. -/
def rDown (w : Reals) (X : Fin 64 → Fin 64 → Fin 25 → ℝ) (t : Fin 64) (k : Fin 48) (v : Fin 25) : ℝ :=
  max ((∑ c, X c t v * w.w c k) + w.b k) 0

/-- A layer's mean over the frames. -/
def rMean (w : Reals) (X : Fin 64 → Fin 64 → Fin 25 → ℝ) (i : Fin 3) (k : Fin 16) (v : Fin 25) : ℝ :=
  (∑ t, rDown w X t (lo i k) v) / 64

/-- A layer's score of vertex `u` as a neighbour of vertex `v`. -/
def rScore (w : Reals) (X : Fin 64 → Fin 64 → Fin 25 → ℝ) (i : Fin 3) (v u : Fin 25) : ℝ :=
  2 * (∑ k, rMean w X i k u * rMean w X i k v) - ∑ k, rMean w X i k u * rMean w X i k u

/-- A layer's edge features, the neighbours given by their ranking. -/
def rEdge (w : Reals) (X : Fin 64 → Fin 64 → Fin 25 → ℝ) (σ : Fin 3 → Fin 25 → Equiv.Perm (Fin 25)) (i : Fin 3)
    (o : Fin 16) (v : Fin 25) : ℝ :=
  Select.leaky slope (Finset.univ.sup' Finset.univ_nonempty
      (fun k : Fin 5 => ∑ c, w.wa i o c * rMean w X i c (Select.five (σ i v) k))
    + ((∑ c, w.wb i o c * rMean w X i c v) + w.bb i o))

/-- A layer's part of a mixed block. -/
def rPart (w : Reals) (X : Fin 64 → Fin 64 → Fin 25 → ℝ) (i j : Fin 3) (o : Fin 16) (t : Fin 64) (v : Fin 25) : ℝ :=
  ∑ c, w.ws i j o c * ∑ u, rDown w X t (lo i c) u * w.pa i j v u

/-- The four blocks side by side: three mixed ones and the edges'. -/
def rCat (w : Reals) (X : Fin 64 → Fin 64 → Fin 25 → ℝ) (σ : Fin 3 → Fin 25 → Equiv.Perm (Fin 25)) (o : Fin 16)
    (t : Fin 64) (v : Fin 25) : Fin 4 → ℝ
  | 0 => rPart w X 0 0 o t v + rPart w X 1 0 o t v + rPart w X 2 0 o t v
  | 1 => rPart w X 0 1 o t v + rPart w X 1 1 o t v + rPart w X 2 1 o t v
  | 2 => rPart w X 0 2 o t v + rPart w X 1 2 o t v + rPart w X 2 2 o t v
  | 3 => (rEdge w X σ 0 o v + rEdge w X σ 1 o v + rEdge w X σ 2 o v) * w.se o

/-- One output. -/
def rOut (w : Reals) (X : Fin 64 → Fin 64 → Fin 25 → ℝ) (σ : Fin 3 → Fin 25 → Equiv.Perm (Fin 25)) (j : Fin 4)
    (o : Fin 16) (t : Fin 64) (v : Fin 25) : ℝ :=
  max (rCat w X σ o t v j + w.bout (jo j o) + X (jo j o) t v) 0

/-- The join of the blocks. -/
theorem finish_apply (es : FVec Ideal S16x25 .f32) (z0 z1 z2 : FVec Ideal S1024x25 .f32) (se : Vec Ideal S16x1 .f32)
    (x1 : Vec Ideal S1x4096x25 .f32) (bout : Vec Ideal S64x1x1 .f32) (Z : Fin 4 → ℝ) (o : Fin 16) (t : Fin 64) (v : Fin 25)
    (h0 : z0 (ix2 (ot o t) v) = ((Z 0 : ℝ) : EReal)) (h1 : z1 (ix2 (ot o t) v) = ((Z 1 : ℝ) : EReal))
    (h2 : z2 (ix2 (ot o t) v) = ((Z 2 : ℝ) : EReal))
    (h3 : (es (ix2 o v) : EReal) * se (ix2 o 0) = ((Z 3 : ℝ) : EReal))
    (j : Fin 4) (b x : ℝ) (hb : bout (ix3 (jo j o) 0 0) = ((b : ℝ) : EReal))
    (hx : x1 (ix3 0 (ct (jo j o) t) v) = ((x : ℝ) : EReal)) :
    finish es z0 z1 z2 se x1 bout (ix3 0 (ct (jo j o) t) v) = ((max (Z j + b + x) 0 : ℝ) : EReal) := by
  unfold finish
  refine (shapeCast_apply _ _ (ix3 0 (ct (jo j o) t) v) (ix2 (ct (jo j o) t) v) ?_).trans ?_
  · refine (rm2 _ _).trans (Eq.trans ?_ (rm3 _ _ _).symm)
    simp
  refine (shapeCast_apply _ _ (ix2 (ct (jo j o) t) v) (ix3 (jo j o) t v) ?_).trans ?_
  · refine (rm3 _ _ _).trans (Eq.trans ?_ (rm2 _ _).symm)
    simp only [ct]; omega
  refine Eq.trans (b := max (_ + _ + _) _) rfl ?_
  rw [coe_max, EReal.coe_add, EReal.coe_add]
  refine congrArg₂ max (congrArg₂ (· + ·) (congrArg₂ (· + ·) ?_ ?_) ?_) ?_
  · have hz (z : FVec Ideal S1024x25 .f32) :
        shapeCast S16x64x25 z shapeCasts_S1024x25_S16x64x25 (ix3 o t v) = z (ix2 (ot o t) v) := by
      refine shapeCast_apply _ _ (ix3 o t v) (ix2 (ot o t) v) ?_
      refine (rm2 _ _).trans (Eq.trans ?_ (rm3 _ _ _).symm)
      simp only [ot]; omega
    have he : broadcastTo S16x64x25 (shapeCast S16x1x25 (shapeCast S16x1x25
            (mulf es (broadcastTo S16x25 (shapeCast S16x1 se shapeCasts_S16x1_S16x1) broadcasts_S16x1_S16x25))
            shapeCasts_S16x25_S16x1x25) shapeCasts_S16x1x25_S16x1x25) broadcasts_S16x1x25_S16x64x25 (ix3 o t v)
        = (es (ix2 o v) : EReal) * se (ix2 o 0) := by
      refine (broadcastTo_apply _ _ (ix3 o t v) (ix3 o 0 v) (by intro a; fin_cases a <;> rfl)).trans ?_
      refine (shapeCast_apply _ _ (ix3 o 0 v) (ix3 o 0 v) rfl).trans ?_
      refine (shapeCast_apply _ _ (ix3 o 0 v) (ix2 o v) ?_).trans ?_
      · refine (rm2 _ _).trans (Eq.trans ?_ (rm3 _ _ _).symm)
        simp
      rw [mulf_apply]
      refine congrArg (es (ix2 o v) * ·) ?_
      refine (broadcastTo_apply _ _ (ix2 o v) (ix2 o 0) (by intro a; fin_cases a <;> rfl)).trans ?_
      exact shapeCast_apply _ _ (ix2 o 0) (ix2 o 0) rfl
    refine (concatenate_ofFn_apply (s₁ := S16x64x25) 0
      ![shapeCast S16x64x25 z0 shapeCasts_S1024x25_S16x64x25, shapeCast S16x64x25 z1 shapeCasts_S1024x25_S16x64x25,
        shapeCast S16x64x25 z2 shapeCasts_S1024x25_S16x64x25,
        broadcastTo S16x64x25 (shapeCast S16x1x25 (shapeCast S16x1x25
            (mulf es (broadcastTo S16x25 (shapeCast S16x1 se shapeCasts_S16x1_S16x1) broadcasts_S16x1_S16x25))
            shapeCasts_S16x25_S16x1x25) shapeCasts_S16x1x25_S16x1x25) broadcasts_S16x1x25_S16x64x25]
      concatenates_S16x64x25_S16x64x25_S16x64x25_S16x64x25_S64x64x25_d0
      rfl 16 rfl (ix3 (jo j o) t v) j (by simp [ix3, jo]; omega) (ix3 o t v) (by simp [ix3, jo]; omega)
      (by intro d hd; fin_cases d <;> first | rfl | exact absurd rfl hd)).trans ?_
    fin_cases j
    · exact (hz z0).trans h0
    · exact (hz z1).trans h1
    · exact (hz z2).trans h2
    · exact he.trans h3
  · refine (broadcastTo_apply _ _ (ix3 (jo j o) t v) (ix3 (jo j o) 0 0) (by intro a; fin_cases a <;> rfl)).trans ?_
    exact Eq.trans (shapeCast_apply _ _ (ix3 (jo j o) 0 0) (ix3 (jo j o) 0 0) rfl) hb
  · refine (shapeCast_apply _ _ (ix3 (jo j o) t v) (ix2 (ct (jo j o) t) v) ?_).trans ?_
    · refine (rm2 _ _).trans (Eq.trans ?_ (rm3 _ _ _).symm)
      simp only [ct]; omega
    refine Eq.trans (shapeCast_apply _ _ (ix2 (ct (jo j o) t) v) (ix3 0 (ct (jo j o) t) v) ?_) hx
    refine (rm3 _ _ _).trans (Eq.trans ?_ (rm2 _ _).symm)
    simp
  · exact Ideal.ofBits_zero_f32

variable {W : Weights Ideal} {w : Reals} (hW : Holds W w) (v0 : Vec Ideal S1x64x1600 .f32)
  (X : Fin 64 → Fin 64 → Fin 25 → ℝ) (hx : ∀ c t v, v0 (ix3 0 c (tv t v)) = ((X c t v : ℝ) : EReal))

include hW hx

/-- The first convolution on held weights. -/
theorem down_holds (t : Fin 64) (k : Fin 48) (v : Fin 25) :
    down v0 W.wdt W.bd (ix3 t k v) = ((rDown w X t k v : ℝ) : EReal) :=
  down_apply v0 W.wdt W.bd X w.w w.b hx hW.wdt hW.bd t k v

/-- A layer's part of a mixed block on held weights. -/
theorem part_holds (i j : Fin 3) (o : Fin 16) (t : Fin 64) (v : Fin 25) :
    part W (down v0 W.wdt W.bd) i j (ix2 (ot o t) v) = ((rPart w X i j o t v : ℝ) : EReal) :=
  mix_apply (W.ws i j) _ (w.ws i j) (hW.ws i j) (fun t c v => ∑ u, rDown w X t (lo i c) u * w.pa i j v u)
    (cols_apply (W.pa i) i j _ (rDown w X) (down_holds hW v0 X hx) (w.pa i j) (hW.pa i j)) o t v

/-- A mixed block on held weights. -/
theorem block_holds (j : Fin 3) (o : Fin 16) (t : Fin 64) (v : Fin 25) :
    block W (down v0 W.wdt W.bd) j (ix2 (ot o t) v)
      = ((rPart w X 0 j o t v + rPart w X 1 j o t v + rPart w X 2 j o t v : ℝ) : EReal) := by
  unfold block
  rw [addf_apply, addf_apply, part_holds hW v0 X hx, part_holds hW v0 X hx, part_holds hW v0 X hx, EReal.coe_add, EReal.coe_add]

/-- A layer's edge features on held weights. -/
theorem edge_holds (σ : Fin 3 → Fin 25 → Equiv.Perm (Fin 25)) (hσ : ∀ i v, Select.Ranks (rScore w X i v) (σ i v))
    (i : Fin 3) (o : Fin 16) (v : Fin 25) :
    layerEdge W (down v0 W.wdt W.bd) i (ix2 o v) = ((rEdge w X σ i o v : ℝ) : EReal) :=
  edge_apply (W.wa i) (W.wb i) (W.bb i) _ (rMean w X i)
    (mean_apply W.mavg i _ (rDown w X) (down_holds hW v0 X hx) hW.mavg) (w.wa i) (w.wb i) (w.bb i)
    (hW.wa i) (hW.wb i) (hW.bb i) v (σ i v) (hσ i v) o

/-- One sample's slab on held weights. -/
theorem sample_holds (σ : Fin 3 → Fin 25 → Equiv.Perm (Fin 25)) (hσ : ∀ i v, Select.Ranks (rScore w X i v) (σ i v))
    (x1 : Vec Ideal S1x4096x25 .f32) (hx1 : ∀ c t v, x1 (ix3 0 (ct c t) v) = ((X c t v : ℝ) : EReal))
    (j : Fin 4) (o : Fin 16) (t : Fin 64) (v : Fin 25) :
    sample W v0 x1 (ix3 0 (ct (jo j o) t) v) = ((rOut w X σ j o t v : ℝ) : EReal) := by
  refine finish_apply _ _ _ _ W.se x1 W.bout (rCat w X σ o t v) o t v (block_holds hW v0 X hx 0 o t v)
    (block_holds hW v0 X hx 1 o t v) (block_holds hW v0 X hx 2 o t v) ?_ j _ _ (hW.bout _) (hx1 _ _ _)
  unfold edges
  rw [addf_apply, addf_apply, edge_holds hW v0 X hx σ hσ, edge_holds hW v0 X hx σ hσ, edge_holds hW v0 X hx σ hσ, hW.se,
    ← EReal.coe_add, ← EReal.coe_add, ← EReal.coe_mul]
  rfl

end Cert.Stage

end
-- ==== Proof.Weights.lean ====
/- The blocks of weights as the program prepares them from its arguments. -/
module

public import proofs.«01_k».proof.Proof.Gen.KernelIdeal.Value
public import proofs.«01_k».proof.Proof.Sample
public import proofs.«01_k».proof.Proof.RefDown
public import Idealize.ShloMosaic.Lib.ValueIdxRank6

@[expose] public section

noncomputable section

namespace Cert.Host

open Idealize.ShloMosaic Idealize.ShloMosaic.StableHlo Idealize.ShloMosaic.ValueIdx Cert.KernelIdeal Cert.KernelIdeal.Gen
open Cert.Index
open Cert.Ref (Tensor)

/-- One over the batch norm's root. -/
def quot : Tensor S_ :=
  Host.divf (constant (F := Ideal) S_ .f32 0x3F800000#32) (Host.sqrt (constant (F := Ideal) S_ .f32 0x3F800054#32))

/-- A batch norm's factors over its root. -/
def scale1 (g : Tensor S64) : Tensor S64 := mulf (F := Ideal) (φ := .f32) g (broadcastInDim S64 ![] bcast_S_S64 quot)
/-- The same, for a layer and a channel. -/
def scale2 (g : Tensor S3x16) : Tensor S3x16 :=
  mulf (F := Ideal) (φ := .f32) g (broadcastInDim S3x16 ![] bcast_S_S3x16 quot)
/-- The same, for a layer, a subset and a channel. -/
def scale3 (g : Tensor S3x3x16) : Tensor S3x3x16 :=
  mulf (F := Ideal) (φ := .f32) g (broadcastInDim S3x3x16 ![] bcast_S_S3x3x16 quot)

/-- The first convolution's matrix. -/
def wdt (x2 : Tensor S3x16x64) (x4 : Tensor S3x16) : Tensor S64x48 :=
  transpose S64x48 [1, 0] (shapeCast S48x64 (mulf (F := Ideal) (φ := .f32) x2
    (broadcastInDim S3x16x64 ![0, 1, 2] bcast_S3x16x1_S3x16x64_0_1_2
      (broadcastInDim S3x16x1 ![0, 1] bcast_S3x16_S3x16x1_0_1 (scale2 x4)))) shapeCasts_S3x16x64_S48x64)
    transposes_S48x64_S64x48_1_0

/-- Its constants. -/
def bd (x3 x4 x5 : Tensor S3x16) : Tensor S1x48 :=
  shapeCast S1x48 (addf (F := Ideal) (φ := .f32) (mulf (F := Ideal) (φ := .f32) x3 (scale2 x4)) x5) shapeCasts_S3x16_S1x48

/-- The graph's matrices side by side. -/
def pa (x1 : Tensor S3x3x25x25) : Tensor S3x25x75 :=
  shapeCast S3x25x75 (transpose S3x25x3x25 [0, 3, 1, 2] x1 transposes_S3x3x25x25_S3x25x3x25_0_3_1_2)
    shapeCasts_S3x25x3x25_S3x25x75

/-- The mixing matrices, scaled. -/
def wsub (x6 : Tensor S3x3x16x16) (x8 : Tensor S3x3x16) (x13 : Tensor S64) : Tensor S3x3x16x16 :=
  mulf (F := Ideal) (φ := .f32)
    (mulf (F := Ideal) (φ := .f32) x6 (broadcastInDim S3x3x16x16 ![0, 1, 2, 3] bcast_S3x3x16x1_S3x3x16x16_0_1_2_3
      (broadcastInDim S3x3x16x1 ![0, 1, 2] bcast_S3x3x16_S3x3x16x1_0_1_2 (scale3 x8))))
    (broadcastInDim S3x3x16x16 ![0, 1, 2, 3] bcast_S1x3x16x1_S3x3x16x16_0_1_2_3
      (broadcastInDim S1x3x16x1 ![1, 2] bcast_S3x16_S1x3x16x1_1_2
        (shapeCast S3x16 (extractStridedSlice S48 ![0] (scale1 x13) slices_S64_S48_0) shapeCasts_S48_S3x16)))

/-- The unit matrix of eight. -/
def eye8 : Tensor S8x8 :=
  uitofp (F := Ideal) .f32 (cmpi .eq (addi (iotaInDim S8x8 32 0) (broadcastInDim S8x8 ![] bcast_S_S8x8 (constantI S_ 32 0#32)))
    (iotaInDim S8x8 32 1))

/-- The mixing matrices, once for each of eight frames. -/
def ws (x6 : Tensor S3x3x16x16) (x8 : Tensor S3x3x16) (x13 : Tensor S64) : Tensor S3x3x128x128 :=
  shapeCast S3x3x128x128 (mulf (F := Ideal) (φ := .f32)
    (broadcastInDim S3x3x16x8x8x16 ![0, 1, 2, 3, 4, 5] bcast_S1x1x1x8x8x1_S3x3x16x8x8x16_0_1_2_3_4_5
      (broadcastInDim S1x1x1x8x8x1 ![3, 4] bcast_S8x8_S1x1x1x8x8x1_3_4 eye8))
    (broadcastInDim S3x3x16x8x8x16 ![0, 1, 2, 3, 4, 5] bcast_S3x3x16x1x1x16_S3x3x16x8x8x16_0_1_2_3_4_5
      (broadcastInDim S3x3x16x1x1x16 ![0, 1, 2, 5] bcast_S3x3x16x16_S3x3x16x1x1x16_0_1_2_5 (wsub x6 x8 x13))))
    shapeCasts_S3x3x16x8x8x16_S3x3x128x128

/-- The unit matrix of sixteen. -/
def eye16 : Tensor S16x16 :=
  uitofp (F := Ideal) .f32 (cmpi .eq (addi (iotaInDim S16x16 32 0)
    (broadcastInDim S16x16 ![] bcast_S_S16x16 (constantI S_ 32 0#32))) (iotaInDim S16x16 32 1))

/-- The averaging matrix. -/
def mavg : Tensor S16x1024 :=
  shapeCast S16x1024 (broadcastInDim S1x16x64x16 ![0, 1, 2, 3] bcast_S1x16x1x16_S1x16x64x16_0_1_2_3
    (shapeCast S1x16x1x16 (Host.divf (F := Ideal) (φ := .f32) eye16
      (broadcastInDim S16x16 ![] bcast_S_S16x16 (constant (F := Ideal) S_ .f32 0x42800000#32)))
      shapeCasts_S16x16_S1x16x1x16)) shapeCasts_S1x16x64x16_S16x1024

/-- The edge factors, once for each channel. -/
def edges (x11 : Tensor S3x16) : Tensor S3x16x16 :=
  broadcastInDim S3x16x16 ![0, 1, 2] bcast_S3x16x1_S3x16x16_0_1_2
    (broadcastInDim S3x16x1 ![0, 1] bcast_S3x16_S3x16x1_0_1 (scale2 x11))

/-- The edge convolution's matrix on the neighbour. -/
def wa (x10 : Tensor S3x16x32) (x11 : Tensor S3x16) : Tensor S3x16x16 :=
  mulf (F := Ideal) (φ := .f32) (extractStridedSlice S3x16x16 ![0, 0, 0] x10 slices_S3x16x32_S3x16x16_0_0_0) (edges x11)

/-- The edge convolution's matrix on the vertex itself. -/
def wb (x10 : Tensor S3x16x32) (x11 : Tensor S3x16) : Tensor S3x16x16 :=
  mulf (F := Ideal) (φ := .f32) (subf (F := Ideal) (φ := .f32)
    (extractStridedSlice S3x16x16 ![0, 0, 16] x10 slices_S3x16x32_S3x16x16_0_0_16)
    (extractStridedSlice S3x16x16 ![0, 0, 0] x10 slices_S3x16x32_S3x16x16_0_0_0)) (edges x11)

/-- The edge convolution's constants. -/
def bb (x12 : Tensor S3x16) : Tensor S3x16x1 := shapeCast S3x16x1 x12 shapeCasts_S3x16_S3x16x1

/-- The edges' factors of the last batch norm. -/
def se (x13 : Tensor S64) : Tensor S16x1 :=
  shapeCast S16x1 (extractStridedSlice S16 ![48] (scale1 x13) slices_S64_S16_48) shapeCasts_S16_S16x1

/-- The layers' constants, summed. -/
def consts (x7 x8 x9 : Tensor S3x3x16) : Tensor S3x16 :=
  Host.reduceAdd (F := Ideal) (φ := .f32) (addf (F := Ideal) (φ := .f32) (mulf (F := Ideal) (φ := .f32) x7 (scale3 x8)) x9)
    (constant (F := Ideal) S_ .f32 0x00000000#32) reducesTo_S3x3x16_S3x16_d0 h_S_

/-- The constants of the output. -/
def bout (x7 x8 x9 : Tensor S3x3x16) (x13 x14 : Tensor S64) : Tensor S64x1x1 :=
  shapeCast S64x1x1 (addf (F := Ideal) (φ := .f32) (mulf (F := Ideal) (φ := .f32)
    (concatenate S64 0 [⟨S48, shapeCast S48 (consts x7 x8 x9) shapeCasts_S3x16_S48⟩,
      ⟨S16, broadcastInDim S16 ![] bcast_S_S16 (constant (F := Ideal) S_ .f32 0x00000000#32)⟩] concatenates_S48_S16_S64_d0)
    (scale1 x13)) x14) shapeCasts_S64_S64x1x1

variable (m : (ℓ : Loc nD τ sig) → Buf (Elt Ideal) ℓ) (c : Dev nD)

/-- The device's arguments. -/
abbrev arg0 : Tensor S128x64x64x25 := m ((c.tc : Thread nD τ).loc main_arg0)
/-- Argument 1 as the run finds it. -/
abbrev arg1 : Tensor S3x3x25x25 := m ((c.tc : Thread nD τ).loc main_arg1)
/-- Argument 2 as the run finds it. -/
abbrev arg2 : Tensor S3x16x64 := m ((c.tc : Thread nD τ).loc main_arg2)
/-- Argument 3 as the run finds it. -/
abbrev arg3 : Tensor S3x16 := m ((c.tc : Thread nD τ).loc main_arg3)
/-- Argument 4 as the run finds it. -/
abbrev arg4 : Tensor S3x16 := m ((c.tc : Thread nD τ).loc main_arg4)
/-- Argument 5 as the run finds it. -/
abbrev arg5 : Tensor S3x16 := m ((c.tc : Thread nD τ).loc main_arg5)
/-- Argument 6 as the run finds it. -/
abbrev arg6 : Tensor S3x3x16x16 := m ((c.tc : Thread nD τ).loc main_arg6)
/-- Argument 7 as the run finds it. -/
abbrev arg7 : Tensor S3x3x16 := m ((c.tc : Thread nD τ).loc main_arg7)
/-- Argument 8 as the run finds it. -/
abbrev arg8 : Tensor S3x3x16 := m ((c.tc : Thread nD τ).loc main_arg8)
/-- Argument 9 as the run finds it. -/
abbrev arg9 : Tensor S3x3x16 := m ((c.tc : Thread nD τ).loc main_arg9)
/-- Argument 10 as the run finds it. -/
abbrev arg10 : Tensor S3x16x32 := m ((c.tc : Thread nD τ).loc main_arg10)
/-- Argument 11 as the run finds it. -/
abbrev arg11 : Tensor S3x16 := m ((c.tc : Thread nD τ).loc main_arg11)
/-- Argument 12 as the run finds it. -/
abbrev arg12 : Tensor S3x16 := m ((c.tc : Thread nD τ).loc main_arg12)
/-- Argument 13 as the run finds it. -/
abbrev arg13 : Tensor S64 := m ((c.tc : Thread nD τ).loc main_arg13)
/-- Argument 14 as the run finds it. -/
abbrev arg14 : Tensor S64 := m ((c.tc : Thread nD τ).loc main_arg14)

/-- The samples, a frame's vertices side by side. -/
theorem host_v0 : V m c main_call0_v0 = shapeCast S128x64x1600 (arg0 m c) shapeCasts_S128x64x64x25_S128x64x1600 := by
  unfold V
  simp only [hostOps0, StableHlo.TRef.ternary, StableHlo.TRef.toBuf, StableHlo.TRef.ofBuf, cast_eq]
  after_results_simp
  rfl

/-- The samples, a channel's frames side by side. -/
theorem host_v1 : V m c main_call0_v1 = shapeCast S128x4096x25 (arg0 m c) shapeCasts_S128x64x64x25_S128x4096x25 := by
  unfold V
  simp only [hostOps0, StableHlo.TRef.ternary, StableHlo.TRef.toBuf, StableHlo.TRef.ofBuf, cast_eq]
  after_results_simp
  rfl

/-- The first convolution's matrix, as the region finds it. -/
theorem host_v11 : V m c main_call0_v11 = wdt (arg2 m c) (arg4 m c) := by
  unfold V
  simp only [hostOps0, StableHlo.TRef.ternary, StableHlo.TRef.toBuf, StableHlo.TRef.ofBuf, cast_eq]
  after_results_simp
  rfl

/-- Its constants, as the region finds them. -/
theorem host_v14 : V m c main_call0_v14 = bd (arg3 m c) (arg4 m c) (arg5 m c) := by
  unfold V
  simp only [hostOps0, StableHlo.TRef.ternary, StableHlo.TRef.toBuf, StableHlo.TRef.ofBuf, cast_eq]
  after_results_simp
  rfl

/-- The graph's matrices, as the region finds them. -/
theorem host_v16 : V m c main_call0_v16 = pa (arg1 m c) := by
  unfold V
  simp only [hostOps0, StableHlo.TRef.ternary, StableHlo.TRef.toBuf, StableHlo.TRef.ofBuf, cast_eq]
  after_results_simp
  rfl

/-- The mixing matrices, as the region finds them. -/
theorem host_v42 : V m c main_call0_v42 = ws (arg6 m c) (arg8 m c) (arg13 m c) := by
  unfold V
  simp only [hostOps0, StableHlo.TRef.ternary, StableHlo.TRef.toBuf, StableHlo.TRef.ofBuf, cast_eq]
  after_results_simp
  rfl

/-- The averaging matrix, as the region finds it. -/
theorem host_v53 : V m c main_call0_v53 = mavg := by
  unfold V
  simp only [hostOps0, StableHlo.TRef.ternary, StableHlo.TRef.toBuf, StableHlo.TRef.ofBuf, cast_eq]
  after_results_simp
  rfl

/-- The edge convolution's first matrix, as the region finds it. -/
theorem host_v61 : V m c main_call0_v61 = wa (arg10 m c) (arg11 m c) := by
  unfold V
  simp only [hostOps0, StableHlo.TRef.ternary, StableHlo.TRef.toBuf, StableHlo.TRef.ofBuf, cast_eq]
  after_results_simp
  rfl

/-- The edge convolution's second matrix, as the region finds it. -/
theorem host_v65 : V m c main_call0_v65 = wb (arg10 m c) (arg11 m c) := by
  unfold V
  simp only [hostOps0, StableHlo.TRef.ternary, StableHlo.TRef.toBuf, StableHlo.TRef.ofBuf, cast_eq]
  after_results_simp
  rfl

/-- The edge convolution's constants, as the region finds them. -/
theorem host_v66 : V m c main_call0_v66 = bb (arg12 m c) := by
  unfold V
  simp only [hostOps0, StableHlo.TRef.ternary, StableHlo.TRef.toBuf, StableHlo.TRef.ofBuf, cast_eq]
  after_results_simp
  rfl

/-- The edges' factors, as the region finds them. -/
theorem host_v71 : V m c main_call0_v71 = se (arg13 m c) := by
  unfold V
  simp only [hostOps0, StableHlo.TRef.ternary, StableHlo.TRef.toBuf, StableHlo.TRef.ofBuf, cast_eq]
  after_results_simp
  rfl

/-- The output's constants, as the region finds them. -/
theorem host_v83 : V m c main_call0_v83 = bout (arg7 m c) (arg8 m c) (arg9 m c) (arg13 m c) (arg14 m c) := by
  unfold V
  simp only [hostOps0, StableHlo.TRef.ternary, StableHlo.TRef.toBuf, StableHlo.TRef.ofBuf, cast_eq]
  after_results_simp
  rfl

end Cert.Host

end
-- ==== Proof.Held.lean ====
/- The prepared blocks of weights, read at an index, on arguments that hold reals. -/
module

public import proofs.«01_k».proof.Proof.Weights

@[expose] public section

noncomputable section

namespace Cert.Host

open Idealize.ShloMosaic Idealize.ShloMosaic.ValueIdx Cert.KernelIdeal Cert.KernelIdeal.Gen
open Cert.Index Cert.Spec
open Cert.Ref (Tensor Are)

/-- The row-major position of a six-axis index. -/
theorem rm6 {n0 n1 n2 n3 n4 n5 : ℕ} (a : Fin n0) (b : Fin n1) (c : Fin n2) (d : Fin n3) (e : Fin n4) (f : Fin n5) :
    ((⟨6, ![n0, n1, n2, n3, n4, n5]⟩ : Shape).rowMajor (ix6 a b c d e f)).val
      = a.val * (n1 * (n2 * (n3 * (n4 * n5)))) + (b.val * (n2 * (n3 * (n4 * n5)))
        + (c.val * (n3 * (n4 * n5)) + (d.val * (n4 * n5) + (e.val * n5 + f.val)))) := by
  show (Shape.rowMajorPi ![n0, n1, n2, n3, n4, n5] (ix6 a b c d e f)).val = _
  rw [Shape.rowMajorPi_succ_val]
  refine congrArg₂ (· + ·) ?_ (rm5 b c d e f)
  simp [Fin.prod_univ_succ]

/-- One over the batch norm's root. -/
def q : ℝ := 1 / root

/-- The word of one is one. -/
theorem word_one : Ideal.ofBits .f32 0x3F800000#32 = ((1 : ℝ) : EReal) := by
  simp [Ideal.ofBits, Ideal.ieee, -EReal.coe_mul]
  norm_num

/-- The quotient is one over the root. -/
theorem quot_apply (i : S_.Idx) : quot i = ((q : ℝ) : EReal) := by
  show Ideal.div (Ideal.ofBits .f32 0x3F800000#32) (Ideal.sqrt (Ideal.ofBits .f32 0x3F800054#32)) = _
  rw [word_one, Ref.sqrt_word, Ref.div_real _ _ root_ne]
  rfl

/-- A scale times one over the root, of 64 channels. -/
theorem scale1_apply {g : Tensor S64} {r : Fin 64 → ℝ} (hg : ∀ i, g i = ((r (i 0) : ℝ) : EReal)) (i : S64.Idx) :
    scale1 g i = ((r (i 0) * q : ℝ) : EReal) := by
  have e : broadcastInDim S64 ![] bcast_S_S64 quot i = ((q : ℝ) : EReal) :=
    (broadcastInDim_apply _ bcast_S_S64 quot i (fun a => a.elim0) (fun a => a.elim0)).trans (quot_apply _)
  show g i * broadcastInDim S64 ![] bcast_S_S64 quot i = _
  rw [e, hg, EReal.coe_mul]

/-- A scale times one over the root, of a layer and a channel. -/
theorem scale2_apply {g : Tensor S3x16} {r : Fin 3 → Fin 16 → ℝ} (hg : ∀ i, g i = ((r (i 0) (i 1) : ℝ) : EReal)) (i : S3x16.Idx) :
    scale2 g i = ((r (i 0) (i 1) * q : ℝ) : EReal) := by
  have e : broadcastInDim S3x16 ![] bcast_S_S3x16 quot i = ((q : ℝ) : EReal) :=
    (broadcastInDim_apply _ bcast_S_S3x16 quot i (fun a => a.elim0) (fun a => a.elim0)).trans (quot_apply _)
  show g i * broadcastInDim S3x16 ![] bcast_S_S3x16 quot i = _
  rw [e, hg, EReal.coe_mul]

/-- A scale times one over the root, of a layer, a subset and a channel. -/
theorem scale3_apply {g : Tensor S3x3x16} {r : Fin 3 → Fin 3 → Fin 16 → ℝ}
    (hg : ∀ i, g i = ((r (i 0) (i 1) (i 2) : ℝ) : EReal)) (i : S3x3x16.Idx) :
    scale3 g i = ((r (i 0) (i 1) (i 2) * q : ℝ) : EReal) := by
  have e : broadcastInDim S3x3x16 ![] bcast_S_S3x3x16 quot i = ((q : ℝ) : EReal) :=
    (broadcastInDim_apply _ bcast_S_S3x3x16 quot i (fun a => a.elim0) (fun a => a.elim0)).trans (quot_apply _)
  show g i * broadcastInDim S3x3x16 ![] bcast_S_S3x3x16 quot i = _
  rw [e, hg, EReal.coe_mul]

/-- A layer and a channel of forty-eight. -/
abbrev lay (k : Fin 48) : Fin 3 := ⟨k.val / 16, by omega⟩
/-- The channel within a layer. -/
abbrev chan (k : Fin 48) : Fin 16 := ⟨k.val % 16, by omega⟩

/-- The numbers the prepared blocks hold. -/
def reals (A : Args) : Stage.Reals where
  w c k := A.wd (lay k) (chan k) c * (A.gd (lay k) (chan k) * q)
  b k := A.bd (lay k) (chan k) * (A.gd (lay k) (chan k) * q) + A.ed (lay k) (chan k)
  pa := A.pa
  ws i j o c := A.ws i j o c * (A.gs i j o * q) * (A.gb (jo j.castSucc o) * q)
  wa i o c := A.we i o ⟨c.val, by omega⟩ * (A.ge i o * q)
  wb i o c := (A.we i o ⟨c.val + 16, by omega⟩ - A.we i o ⟨c.val, by omega⟩) * (A.ge i o * q)
  bb := A.ee
  se o := A.gb (jo 3 o) * q
  bout c := (if h : c.val < 48 then
      ∑ l, (A.bs l (lay ⟨c.val, h⟩) (chan ⟨c.val, h⟩) * (A.gs l (lay ⟨c.val, h⟩) (chan ⟨c.val, h⟩) * q)
        + A.es l (lay ⟨c.val, h⟩) (chan ⟨c.val, h⟩))
    else 0) * (A.gb c * q) + A.bb c

variable {A : Args} {x0 : Tensor S128x64x64x25} {x1 : Tensor S3x3x25x25} {x2 : Tensor S3x16x64}
    {x3 x4 x5 : Tensor S3x16} {x6 : Tensor S3x3x16x16} {x7 x8 x9 : Tensor S3x3x16} {x10 : Tensor S3x16x32}
    {x11 x12 : Tensor S3x16} {x13 x14 : Tensor S64} (h : Are A x0 x1 x2 x3 x4 x5 x6 x7 x8 x9 x10 x11 x12 x13 x14)

include h

/-- The first convolution's weights. -/
theorem wdt_apply (c : Fin 64) (k : Fin 48) : wdt x2 x4 (ix2 c k) = (((reals A).w c k : ℝ) : EReal) := by
  unfold wdt
  refine (transpose_apply _ _ transposes_S48x64_S64x48_1_0 (ix2 c k) (ix2 k c) (by intro a; fin_cases a <;> rfl)).trans ?_
  refine (shapeCast_apply _ shapeCasts_S3x16x64_S48x64 (ix2 k c) (ix3 (lay k) (chan k) c) ?_).trans ?_
  · refine (rm3 _ _ _).trans (Eq.trans ?_ (rm2 _ _).symm)
    simp only []; omega
  refine (congrArg₂ (fun a b : EReal => a * b) (h.wd _) ((broadcastInDim_apply _ bcast_S3x16x1_S3x16x64_0_1_2 _
    (ix3 (lay k) (chan k) c) (ix3 (lay k) (chan k) 0) (by intro a; fin_cases a <;> rfl)).trans
      ((broadcastInDim_apply _ bcast_S3x16_S3x16x1_0_1 _ (ix3 (lay k) (chan k) 0) (ix2 (lay k) (chan k))
        (by intro a; fin_cases a <;> rfl)).trans (scale2_apply h.gd _)))).trans ?_
  rw [← EReal.coe_mul]
  rfl

/-- The first convolution's biases. -/
theorem bd_apply (k : Fin 48) : bd x3 x4 x5 (ix2 0 k) = (((reals A).b k : ℝ) : EReal) := by
  unfold bd
  refine (shapeCast_apply _ shapeCasts_S3x16_S1x48 (ix2 0 k) (ix2 (lay k) (chan k)) ?_).trans ?_
  · refine (rm2 _ _).trans (Eq.trans ?_ (rm2 _ _).symm)
    simp only [Fin.val_zero]; omega
  show x3 (ix2 (lay k) (chan k)) * scale2 x4 (ix2 (lay k) (chan k)) + x5 (ix2 (lay k) (chan k)) = _
  rw [h.bd, scale2_apply h.gd, h.ed, ← EReal.coe_mul, ← EReal.coe_add]
  rfl

/-- The adjacency matrices, transposed, the subsets side by side. -/
theorem pa_apply (i j : Fin 3) (u v : Fin 25) : pa x1 (ix3 i u (jv j v)) = (((reals A).pa i j v u : ℝ) : EReal) := by
  unfold pa
  refine (shapeCast_apply _ shapeCasts_S3x25x3x25_S3x25x75 (ix3 i u (jv j v)) (ix4 i u j v) ?_).trans ?_
  · refine (rm4 _ _ _ _).trans (Eq.trans ?_ (rm3 _ _ _).symm)
    simp only [jv]; omega
  refine (transpose_apply _ _ transposes_S3x3x25x25_S3x25x3x25_0_3_1_2 (ix4 i u j v) (ix4 i j v u)
    (by intro a; fin_cases a <;> rfl)).trans ?_
  exact h.pa _

/-- The mixing weights, both batch norms folded in. -/
theorem wsub_apply (i j : Fin 3) (o c : Fin 16) : wsub x6 x8 x13 (ix4 i j o c) = (((reals A).ws i j o c : ℝ) : EReal) := by
  have hs : broadcastInDim S3x3x16x16 ![0, 1, 2, 3] bcast_S3x3x16x1_S3x3x16x16_0_1_2_3
      (broadcastInDim S3x3x16x1 ![0, 1, 2] bcast_S3x3x16_S3x3x16x1_0_1_2 (scale3 x8)) (ix4 i j o c)
      = ((A.gs i j o * q : ℝ) : EReal) :=
    (broadcastInDim_apply _ bcast_S3x3x16x1_S3x3x16x16_0_1_2_3 _ (ix4 i j o c) (ix4 i j o 0)
      (by intro a; fin_cases a <;> rfl)).trans
      ((broadcastInDim_apply _ bcast_S3x3x16_S3x3x16x1_0_1_2 _ (ix4 i j o 0) (ix3 i j o)
        (by intro a; fin_cases a <;> rfl)).trans (scale3_apply h.gs _))
  have hb : broadcastInDim S3x3x16x16 ![0, 1, 2, 3] bcast_S1x3x16x1_S3x3x16x16_0_1_2_3
      (broadcastInDim S1x3x16x1 ![1, 2] bcast_S3x16_S1x3x16x1_1_2
        (shapeCast S3x16 (extractStridedSlice S48 ![0] (scale1 x13) slices_S64_S48_0) shapeCasts_S48_S3x16)) (ix4 i j o c)
      = ((A.gb (jo j.castSucc o) * q : ℝ) : EReal) := by
    refine (broadcastInDim_apply _ bcast_S1x3x16x1_S3x3x16x16_0_1_2_3 _ (ix4 i j o c) (ix4 0 j o 0)
      (by intro a; fin_cases a <;> rfl)).trans ?_
    refine (broadcastInDim_apply _ bcast_S3x16_S1x3x16x1_1_2 _ (ix4 0 j o 0) (ix2 j o)
      (by intro a; fin_cases a <;> rfl)).trans ?_
    refine (shapeCast_apply _ shapeCasts_S48_S3x16 (ix2 j o) (ix1 (lo j o)) ?_).trans ?_
    · refine (rm1 _).trans (Eq.trans ?_ (rm2 _ _).symm)
      simp only [lo]; omega
    refine (extractStridedSlice_apply _ _ slices_S64_S48_0 (ix1 (lo j o)) (ix1 (jo j.castSucc o))
      (by intro a; fin_cases a; simp [ix1, lo, jo])).trans ?_
    exact scale1_apply h.gb _
  unfold wsub
  refine (congrArg₂ (fun a b : EReal => a * b) (congrArg₂ (fun a b : EReal => a * b) (h.ws _) hs) hb).trans ?_
  rw [← EReal.coe_mul, ← EReal.coe_mul]
  rfl

omit h in
/-- The identity matrix of eight frames. -/
theorem eye8_apply (a b : Fin 8) : eye8 (ix2 a b) = ((if a = b then 1 else 0 : ℝ) : EReal) := by
  have e : broadcastInDim S8x8 ![] bcast_S_S8x8 (constantI S_ 32 0#32) (ix2 a b) = 0#32 :=
    broadcastInDim_apply _ bcast_S_S8x8 _ _ (fun a => a.elim0) (fun a => a.elim0)
  show (((IntOp.cmpi .eq (IntOp.addi (BitVec.ofNat 32 a.val) (broadcastInDim S8x8 ![] bcast_S_S8x8 (constantI S_ 32 0#32) (ix2 a b)))
    (BitVec.ofNat 32 b.val)).toNat : ℝ) : EReal) = _
  rw [e]
  have : (IntOp.cmpi .eq (IntOp.addi (BitVec.ofNat 32 a.val) 0#32) (BitVec.ofNat 32 b.val)).toNat = if a = b then 1 else 0 := by
    revert a b; decide
  rw [this]
  split <;> simp

omit h in
/-- The identity matrix of sixteen channels. -/
theorem eye16_apply (a b : Fin 16) : eye16 (ix2 a b) = ((if a = b then 1 else 0 : ℝ) : EReal) := by
  have e : broadcastInDim S16x16 ![] bcast_S_S16x16 (constantI S_ 32 0#32) (ix2 a b) = 0#32 :=
    broadcastInDim_apply _ bcast_S_S16x16 _ _ (fun a => a.elim0) (fun a => a.elim0)
  show (((IntOp.cmpi .eq (IntOp.addi (BitVec.ofNat 32 a.val) (broadcastInDim S16x16 ![] bcast_S_S16x16 (constantI S_ 32 0#32) (ix2 a b)))
    (BitVec.ofNat 32 b.val)).toNat : ℝ) : EReal) = _
  rw [e]
  have : (IntOp.cmpi .eq (IntOp.addi (BitVec.ofNat 32 a.val) 0#32) (BitVec.ofNat 32 b.val)).toNat = if a = b then 1 else 0 := by
    revert a b; decide
  rw [this]
  split <;> simp

/-- The mixing weights, once for each of eight frames. -/
theorem ws_apply (i j : Fin 3) (o c : Fin 16) (a b : Fin 8) :
    ws x6 x8 x13 (ix4 i j (oa o a) (ac b c)) = ((if a = b then (reals A).ws i j o c else 0 : ℝ) : EReal) := by
  unfold ws
  refine (shapeCast_apply _ shapeCasts_S3x3x16x8x8x16_S3x3x128x128 (ix4 i j (oa o a) (ac b c)) (ix6 i j o a b c) ?_).trans ?_
  · refine (rm6 _ _ _ _ _ _).trans (Eq.trans ?_ (rm4 _ _ _ _).symm)
    simp only [oa, ac]; omega
  refine (congrArg₂ (fun a b : EReal => a * b)
    ((broadcastInDim_apply _ bcast_S1x1x1x8x8x1_S3x3x16x8x8x16_0_1_2_3_4_5 _ (ix6 i j o a b c) (ix6 0 0 0 a b 0)
      (by intro a; fin_cases a <;> rfl)).trans ((broadcastInDim_apply _ bcast_S8x8_S1x1x1x8x8x1_3_4 _ (ix6 0 0 0 a b 0) (ix2 a b)
      (by intro a; fin_cases a <;> rfl)).trans (eye8_apply a b)))
    ((broadcastInDim_apply _ bcast_S3x3x16x1x1x16_S3x3x16x8x8x16_0_1_2_3_4_5 _ (ix6 i j o a b c) (ix6 i j o 0 0 c)
      (by intro a; fin_cases a <;> rfl)).trans ((broadcastInDim_apply _ bcast_S3x3x16x16_S3x3x16x1x1x16_0_1_2_5 _ (ix6 i j o 0 0 c)
      (ix4 i j o c) (by intro a; fin_cases a <;> rfl)).trans (wsub_apply h i j o c)))).trans ?_
  rw [← EReal.coe_mul]
  congr 1
  split <;> simp

omit h in
/-- The averaging matrix: a 64th at each channel's own positions. -/
theorem mavg_apply (k : Fin 16) (t : Fin 64) (c : Fin 16) :
    mavg (ix2 k (tc t c)) = ((if k = c then 1 / 64 else 0 : ℝ) : EReal) := by
  have e : broadcastInDim S16x16 ![] bcast_S_S16x16 (constant (F := Ideal) S_ .f32 0x42800000#32) (ix2 k c) = ((64 : ℝ) : EReal) :=
    (broadcastInDim_apply _ bcast_S_S16x16 _ (ix2 k c) (fun a => a.elim0) (fun a => a.elim0)).trans Ref.word_64
  unfold mavg
  refine (shapeCast_apply _ shapeCasts_S1x16x64x16_S16x1024 (ix2 k (tc t c)) (ix4 0 k t c) ?_).trans ?_
  · refine (rm4 _ _ _ _).trans (Eq.trans ?_ (rm2 _ _).symm)
    simp only [tc, Fin.val_zero]; omega
  refine (broadcastInDim_apply _ bcast_S1x16x1x16_S1x16x64x16_0_1_2_3 _ (ix4 0 k t c) (ix4 0 k 0 c)
    (by intro a; fin_cases a <;> rfl)).trans ?_
  refine (shapeCast_apply _ shapeCasts_S16x16_S1x16x1x16 (ix4 0 k 0 c) (ix2 k c) ?_).trans ?_
  · refine (rm2 _ _).trans (Eq.trans ?_ (rm4 _ _ _ _).symm)
    simp only [Fin.val_zero]; omega
  show Ideal.div (eye16 (ix2 k c)) (broadcastInDim S16x16 ![] bcast_S_S16x16 (constant (F := Ideal) S_ .f32 0x42800000#32) (ix2 k c)) = _
  rw [e, eye16_apply, Ref.div_real _ _ (by norm_num)]
  congr 1
  split <;> simp

/-- The edge batch norm's scale, spread over the channels. -/
theorem edges_apply (i : Fin 3) (o c : Fin 16) : edges x11 (ix3 i o c) = ((A.ge i o * q : ℝ) : EReal) := by
  unfold edges
  refine (broadcastInDim_apply _ bcast_S3x16x1_S3x16x16_0_1_2 _ (ix3 i o c) (ix3 i o 0) (by intro a; fin_cases a <;> rfl)).trans ?_
  refine (broadcastInDim_apply _ bcast_S3x16_S3x16x1_0_1 _ (ix3 i o 0) (ix2 i o) (by intro a; fin_cases a <;> rfl)).trans ?_
  exact scale2_apply h.ge _

/-- The edge weights' first half: the difference's. -/
theorem near_apply (i : Fin 3) (o c : Fin 16) : extractStridedSlice S3x16x16 ![0, 0, 0] x10 slices_S3x16x32_S3x16x16_0_0_0 (ix3 i o c)
    = ((A.we i o ⟨c.val, by omega⟩ : ℝ) : EReal) :=
  (extractStridedSlice_apply _ _ slices_S3x16x32_S3x16x16_0_0_0 (ix3 i o c) (ix3 i o (⟨c.val, by omega⟩ : Fin 32))
    (by intro a; fin_cases a <;> simp [ix3])).trans (h.we _)

/-- The edge weights' second half: the vertex's own. -/
theorem far_apply (i : Fin 3) (o c : Fin 16) : extractStridedSlice S3x16x16 ![0, 0, 16] x10 slices_S3x16x32_S3x16x16_0_0_16 (ix3 i o c)
    = ((A.we i o ⟨c.val + 16, by omega⟩ : ℝ) : EReal) :=
  (extractStridedSlice_apply _ _ slices_S3x16x32_S3x16x16_0_0_16 (ix3 i o c) (ix3 i o (⟨c.val + 16, by omega⟩ : Fin 32))
    (by intro a; fin_cases a <;> simp [ix3, add_comm])).trans (h.we _)

/-- The neighbour's edge weights. -/
theorem wa_apply (i : Fin 3) (o c : Fin 16) : wa x10 x11 (ix3 i o c) = (((reals A).wa i o c : ℝ) : EReal) := by
  unfold wa
  refine (congrArg₂ (fun a b : EReal => a * b) (near_apply h i o c) (edges_apply h i o c)).trans ?_
  rw [← EReal.coe_mul]
  rfl

/-- The vertex's own edge weights. -/
theorem wb_apply (i : Fin 3) (o c : Fin 16) : wb x10 x11 (ix3 i o c) = (((reals A).wb i o c : ℝ) : EReal) := by
  unfold wb
  refine (congrArg₂ (fun a b : EReal => a * b) (congrArg₂ (fun a b : EReal => a - b) (far_apply h i o c) (near_apply h i o c))
    (edges_apply h i o c)).trans ?_
  rw [← EReal.coe_sub, ← EReal.coe_mul]
  rfl

/-- The edge biases. -/
theorem bb_apply (i : Fin 3) (o : Fin 16) : bb x12 (ix3 i o 0) = (((reals A).bb i o : ℝ) : EReal) := by
  unfold bb
  refine (shapeCast_apply _ shapeCasts_S3x16_S3x16x1 (ix3 i o 0) (ix2 i o) ?_).trans (h.ee _)
  refine (rm2 _ _).trans (Eq.trans ?_ (rm3 _ _ _).symm)
  simp only [Fin.val_zero]; omega

/-- The edges' output scale. -/
theorem se_apply (o : Fin 16) : se x13 (ix2 o 0) = (((reals A).se o : ℝ) : EReal) := by
  unfold se
  refine (shapeCast_apply _ shapeCasts_S16_S16x1 (ix2 o 0) (ix1 o) ?_).trans ?_
  · refine (rm1 _).trans (Eq.trans ?_ (rm2 _ _).symm)
    simp only [Fin.val_zero]; omega
  refine (extractStridedSlice_apply _ _ slices_S64_S16_48 (ix1 o) (ix1 (jo 3 o)) (by intro a; fin_cases a; simp [ix1, jo])).trans ?_
  exact scale1_apply h.gb _

/-- The mixed blocks' constants, summed over the layers. -/
theorem consts_apply (j : Fin 3) (o : Fin 16) :
    consts x7 x8 x9 (ix2 j o) = ((∑ l, (A.bs l j o * (A.gs l j o * q) + A.es l j o) : ℝ) : EReal) := by
  have hs (l : Fin 3) : addf (F := Ideal) (φ := .f32) (mulf (F := Ideal) (φ := .f32) x7 (scale3 x8)) x9 (ix3 l j o)
      = ((A.bs l j o * (A.gs l j o * q) + A.es l j o : ℝ) : EReal) := by
    show x7 (ix3 l j o) * scale3 x8 (ix3 l j o) + x9 (ix3 l j o) = _
    rw [h.bs, scale3_apply h.gs, h.es, ← EReal.coe_mul, ← EReal.coe_add]
  unfold consts
  generalize addf (F := Ideal) (φ := .f32) (mulf (F := Ideal) (φ := .f32) x7 (scale3 x8)) x9 = y at hs
  simp only [Host.reduceAdd, Ideal.hostReduceAdd_def]
  rw [Ideal.hostReduceAdd_single reducesTo_S3x3x16_S3x16_d0 (by decide), coe_sum]
  refine (congrArg₂ (fun a b : EReal => a + b) Ideal.ofBits_zero_f32 (Finset.sum_congr rfl fun l _ => ?_)).trans (zero_add _)
  refine Eq.trans (congrArg y ?_) (hs l)
  funext a
  fin_cases a <;> rfl

/-- The last biases. -/
theorem bout_apply (c : Fin 64) : bout x7 x8 x9 x13 x14 (ix3 c 0 0) = (((reals A).bout c : ℝ) : EReal) := by
  have hc : concatenate S64 0 [⟨S48, shapeCast S48 (consts x7 x8 x9) shapeCasts_S3x16_S48⟩,
      ⟨S16, broadcastInDim S16 ![] bcast_S_S16 (constant (F := Ideal) S_ .f32 0x00000000#32)⟩] concatenates_S48_S16_S64_d0 (ix1 c)
      = ((if h : c.val < 48 then
        ∑ l, (A.bs l (lay ⟨c.val, h⟩) (chan ⟨c.val, h⟩) * (A.gs l (lay ⟨c.val, h⟩) (chan ⟨c.val, h⟩) * q)
          + A.es l (lay ⟨c.val, h⟩) (chan ⟨c.val, h⟩))
        else 0 : ℝ) : EReal) := by
    by_cases hc : c.val < 48
    · rw [dif_pos hc]
      refine (concatenate_pair_apply_left 0 _ _ concatenates_S48_S16_S64_d0 (ix1 c) rfl (ix1 (⟨c.val, hc⟩ : Fin 48))
        (by intro a; fin_cases a; rfl)).trans ?_
      refine (shapeCast_apply _ shapeCasts_S3x16_S48 (ix1 ⟨c.val, hc⟩) (ix2 (lay ⟨c.val, hc⟩) (chan ⟨c.val, hc⟩)) ?_).trans
        (consts_apply h _ _)
      refine (rm2 _ _).trans (Eq.trans ?_ (rm1 _).symm)
      simp only []; omega
    · rw [dif_neg hc]
      refine (concatenate_pair_apply_right 0 _ _ concatenates_S48_S16_S64_d0 (ix1 c) rfl rfl (ix1 (⟨c.val - 48, by omega⟩ : Fin 16))
        (by intro a ha; fin_cases a; exact absurd rfl ha) (by show c.val - 48 + 48 = c.val; omega)).trans ?_
      exact (broadcastInDim_apply _ bcast_S_S16 _ _ (fun a => a.elim0) (fun a => a.elim0)).trans Ideal.ofBits_zero_f32
  unfold bout
  refine (shapeCast_apply _ shapeCasts_S64_S64x1x1 (ix3 c 0 0) (ix1 c) ?_).trans ?_
  · refine (rm1 _).trans (Eq.trans ?_ (rm3 _ _ _).symm)
    simp only [Fin.val_zero]; omega
  refine (congrArg₂ (fun a b : EReal => a + b) (congrArg₂ (fun a b : EReal => a * b) hc (scale1_apply h.gb _)) (h.bb _)).trans ?_
  rw [← EReal.coe_mul, ← EReal.coe_add]
  rfl

end Cert.Host

end
-- ==== Proof.Equation.lean ====
/- The two ways of writing the unit agree over the reals: the batch norms folded into the weights, the neighbours scored
   without the vertex's own length, the greatest taken before the edge convolution's last steps. -/
module

public import proofs.«01_k».proof.Proof.Held
public import proofs.«01_k».proof.Proof.Sample

@[expose] public section

noncomputable section

namespace Cert.Host

open Cert.Index Cert.Spec Cert.Stage

variable (A : Args) (n : Fin 128)

/-- A channel's layer. -/
theorem lay_lo (l : Fin 3) (o : Fin 16) : lay (lo l o) = l := by
  apply Fin.ext; simp only [lo]; omega

/-- A channel's place within its layer. -/
theorem chan_lo (l : Fin 3) (o : Fin 16) : chan (lo l o) = o := by
  apply Fin.ext; simp only [lo]; omega

/-- A quotient by the root is a product by its inverse. -/
theorem div_root (a : ℝ) : a / root = a * q := by rw [q, mul_one_div]

/-- The first convolution with its batch norm folded in. -/
theorem down_eq (t : Fin 64) (l : Fin 3) (o : Fin 16) (v : Fin 25) :
    rDown (reals A) (A.x n) t (lo l o) v = down A l n o t v := by
  unfold rDown down
  simp only [reals, lay_lo, chan_lo]
  rw [div_root]
  congr 1
  have : ∑ c, A.x n c t v * (A.wd l o c * (A.gd l o * q)) = (∑ c, A.wd l o c * A.x n c t v) * (A.gd l o * q) := by
    rw [Finset.sum_mul]
    exact Finset.sum_congr rfl fun c _ => by ring
  rw [this]
  ring

/-- The means. -/
theorem mean_eq (l : Fin 3) (o : Fin 16) (v : Fin 25) : rMean (reals A) (A.x n) l o v = mean A l n o v := by
  unfold rMean mean
  simp only [down_eq]

/-- The two scores of a neighbour differ by the vertex's own squared length, the same for all its neighbours. -/
theorem score_eq (l : Fin 3) (v u : Fin 25) :
    rScore (reals A) (A.x n) l v u = score A l n v u + len A l n v := by
  have hs : ∑ o, mean A l n o u * mean A l n o v = ∑ o, mean A l n o v * mean A l n o u :=
    Finset.sum_congr rfl fun o _ => mul_comm _ _
  have hl : len A l n u = ∑ o, mean A l n o u * mean A l n o u := rfl
  unfold rScore score
  simp only [mean_eq]
  rw [hs, hl]
  ring

/-- The scores rank the neighbours alike. -/
theorem ranks_eq (l : Fin 3) (v : Fin 25) (σ : Equiv.Perm (Fin 25)) (h : Select.Ranks (score A l n v) σ) :
    Select.Ranks (rScore (reals A) (A.x n) l v) σ :=
  h.shift _ _ fun u => score_eq A n l v u

/-- A sum over thirty-two is one over the first sixteen and one over the last. -/
theorem sum_halves (f : Fin 32 → ℝ) :
    ∑ k, f k = ∑ c : Fin 16, f ⟨c.val, by omega⟩ + ∑ c : Fin 16, f ⟨c.val + 16, by omega⟩ := by
  rw [show ∑ k, f k = ∑ k : Fin (16 + 16), f k from rfl, Fin.sum_univ_add]
  refine congrArg₂ (· + ·) rfl (Finset.sum_congr rfl fun c _ => congrArg f (Fin.ext ?_))
  show 16 + c.val = c.val + 16
  omega

/-- The edge convolution, split at the neighbour. -/
theorem conv_eq (l : Fin 3) (o : Fin 16) (v u : Fin 25) :
    conv A l n o v u = ∑ c, (reals A).wa l o c * mean A l n c u + ((∑ c, (reals A).wb l o c * mean A l n c v) + (reals A).bb l o) := by
  have hn (c : Fin 16) : feature A l n v u ⟨c.val, by omega⟩ = mean A l n c u - mean A l n c v := by
    unfold feature; rw [dif_pos (show c.val < 16 by omega)]
  have hf (c : Fin 16) : feature A l n v u ⟨c.val + 16, by omega⟩ = mean A l n c v := by
    unfold feature
    rw [dif_neg (show ¬ c.val + 16 < 16 by omega)]
    exact congrArg (fun k => mean A l n k v) (Fin.ext (by show c.val + 16 - 16 = c.val; omega))
  unfold conv
  rw [sum_halves, div_root]
  simp only [hn, hf, reals]
  rw [show ∀ a b e : ℝ, (a + b) * q * A.ge l o + e = (a * (A.ge l o * q) + b * (A.ge l o * q)) + e from fun a b e => by ring,
    Finset.sum_mul, Finset.sum_mul, ← Finset.sum_add_distrib, ← add_assoc, ← Finset.sum_add_distrib]
  congr 1
  exact Finset.sum_congr rfl fun c _ => by ring

/-- The two slopes are one. -/
theorem slope_eq : Stage.slope = Spec.slope := rfl

/-- The greatest over the five neighbours, before or after the last steps. -/
theorem edge_eq (σ : Fin 3 → Fin 25 → Equiv.Perm (Fin 25)) (l : Fin 3) (o : Fin 16) (v : Fin 25) :
    rEdge (reals A) (A.x n) σ l o v = edge A (σ l v) l n o v := by
  unfold rEdge edge
  simp only [mean_eq, conv_eq]
  rw [slope_eq]
  exact (Select.mono_sup' (F := fun y => Select.leaky Spec.slope (y + ((∑ c, (reals A).wb l o c * mean A l n c v) + (reals A).bb l o)))
    (fun a b hab => Select.leaky_mono (by unfold Spec.slope; norm_num) (by unfold Spec.slope; norm_num) (by simpa using hab)) _)

/-- A layer's and a subset's convolution, its batch norm and the output's scale folded in. -/
theorem part_eq (l j : Fin 3) (o : Fin 16) (t : Fin 64) (v : Fin 25) :
    sub A l j n o t v * q * A.gb (jo j.castSucc o)
      = rPart (reals A) (A.x n) l j o t v
        + (A.bs l j o * (A.gs l j o * q) + A.es l j o) * (A.gb (jo j.castSucc o) * q) := by
  unfold sub rPart
  rw [div_root]
  simp only [down_eq]
  simp only [reals]
  have : ∑ c, A.ws l j o c * (A.gs l j o * q) * (A.gb (jo j.castSucc o) * q) * ∑ u, down A l n c t u * A.pa l j v u
      = (∑ c, A.ws l j o c * ∑ u, A.pa l j v u * down A l n c t u) * ((A.gs l j o * q) * (A.gb (jo j.castSucc o) * q)) := by
    rw [Finset.sum_mul]
    refine Finset.sum_congr rfl fun c _ => ?_
    rw [show ∑ u, down A l n c t u * A.pa l j v u = ∑ u, A.pa l j v u * down A l n c t u from
      Finset.sum_congr rfl fun u _ => mul_comm _ _]
    ring
  rw [this]
  ring

/-- The last bias of a mixed block. -/
theorem bout_mixed (j : Fin 3) (o : Fin 16) : (reals A).bout (jo j.castSucc o)
    = (∑ l, (A.bs l j o * (A.gs l j o * q) + A.es l j o)) * (A.gb (jo j.castSucc o) * q) + A.bb (jo j.castSucc o) := by
  have h : (jo j.castSucc o).val < 48 := by show 16 * j.val + o.val < 48; omega
  have e : (⟨(jo j.castSucc o).val, h⟩ : Fin 48) = lo j o := rfl
  simp only [reals]
  rw [dif_pos h]
  simp only [e, lay_lo, chan_lo]

/-- The last bias of the edges' block. -/
theorem bout_edges (o : Fin 16) : (reals A).bout (jo 3 o) = A.bb (jo 3 o) := by
  have h : ¬ (jo 3 o).val < 48 := by show ¬ 16 * 3 + o.val < 48; omega
  simp only [reals]
  rw [dif_neg h, zero_mul, zero_add]

/-- A block before the last bias: three layers' parts, or the edges'. -/
theorem cat_mixed (σ : Fin 3 → Fin 25 → Equiv.Perm (Fin 25)) (j : Fin 3) (o : Fin 16) (t : Fin 64) (v : Fin 25) :
    rCat (reals A) (A.x n) σ o t v j.castSucc = ∑ l, rPart (reals A) (A.x n) l j o t v := by
  rw [Fin.sum_univ_three]
  fin_cases j <;> rfl

/-- The edges' block before the last bias. -/
theorem cat_edges (σ : Fin 3 → Fin 25 → Equiv.Perm (Fin 25)) (o : Fin 16) (t : Fin 64) (v : Fin 25) :
    rCat (reals A) (A.x n) σ o t v 3 = (∑ l, rEdge (reals A) (A.x n) σ l o v) * (A.gb (jo 3 o) * q) := by
  rw [Fin.sum_univ_three]
  rfl

/-- The two outputs are equal. -/
theorem out_eq (σ : Fin 3 → Fin 25 → Equiv.Perm (Fin 25)) (j : Fin 4) (o : Fin 16) (t : Fin 64) (v : Fin 25) :
    rOut (reals A) (A.x n) σ j o t v = out A (fun l => σ l v) n j o t v := by
  unfold rOut out
  congr 2
  rw [div_root]
  by_cases hj : j.val < 3
  · obtain ⟨i, rfl⟩ : ∃ i : Fin 3, j = i.castSucc := ⟨⟨j.val, hj⟩, rfl⟩
    have e : cat A (fun l => σ l v) n o t v i.castSucc = ∑ l, sub A l i n o t v := by
      unfold cat; rw [dif_pos hj]; rfl
    rw [e, cat_mixed, bout_mixed, Finset.sum_mul, Finset.sum_mul, Finset.sum_mul, ← add_assoc, ← Finset.sum_add_distrib]
    congr 1
    exact Finset.sum_congr rfl fun l _ => (part_eq A n l i o t v).symm
  · obtain rfl : j = 3 := by omega
    have e : cat A (fun l => σ l v) n o t v 3 = ∑ l, edge A (σ l v) l n o v := by
      unfold cat; rw [dif_neg hj]
    rw [e, cat_edges, bout_edges]
    simp only [edge_eq]
    ring

end Cert.Host

end
-- ==== Proof.Array.lean ====
/- The kernel's output array, read at an index: each grid point writes four samples, each a function of that sample's inputs
   and the weights. -/
module

public import proofs.«01_k».proof.Proof.Gen.KernelIdeal.Value
public import proofs.«01_k».proof.Proof.Bridge
public import proofs.«01_k».proof.Proof.Equation

@[expose] public section

noncomputable section

namespace Cert.Host

open Idealize.ShloMosaic Idealize.ShloMosaic.TcCoe Idealize.ShloMosaic.ValueIdx Cert.KernelIdeal Cert.KernelIdeal.Gen
open Idealize.SL.Sem
open Cert.Index Cert.Spec Cert.Body
open Cert.Ref (Tensor Are)

/-- The four samples of a block as one function of the block's index. -/
def block (W : Weights Ideal) (x0 : Vec Ideal S4x64x1600 .f32) (x1 : Vec Ideal S4x4096x25 .f32) (y : S4x4096x25.Idx) :
    Elt Ideal .f32 :=
  sample W (slabX x0 (y 0)) (View.ld x1 (slabRect (y 0))) (ix3 0 (y 1) (y 2))

/-- Where a slab's index lies in the block. -/
theorem slab_emb (s : Fin 4) (x : S1x4096x25.Idx) : (slabRect s).emb x = ix3 s (x 1) (x 2) := by
  funext a
  apply Fin.ext
  rw [Rect.emb_apply]
  fin_cases a
  · have : (x 0).val = 0 := by have := (x 0).isLt; exact Nat.lt_one_iff.mp this
    show s.val + 1 * (x 0).val = s.val
    omega
  · show 0 + 1 * (x 1).val = (x 1).val
    omega
  · show 0 + 1 * (x 2).val = (x 2).val
    omega

/-- A sample's store is its part of the block. -/
theorem piece_eq (W : Weights Ideal) (x0 : Vec Ideal S4x64x1600 .f32) (x1 : Vec Ideal S4x4096x25 .f32) (s : Fin 4)
    (x : S1x4096x25.Idx) : sample W (slabX x0 s) (View.ld x1 (slabRect s)) x = block W x0 x1 ((slabRect s).emb x) := by
  rw [slab_emb]
  unfold block
  refine congrArg (sample W (slabX x0 s) (View.ld x1 (slabRect s))) ?_
  funext a
  fin_cases a
  · exact Subsingleton.elim (α := Fin 1) _ _
  · rfl
  · rfl

/-- A block of the output is its four samples. -/
theorem canon_eq (W : Weights Ideal) (x0 : Vec Ideal S4x64x1600 .f32) (x1 : Vec Ideal S4x4096x25 .f32) (y : S4x4096x25.Idx) :
    View.canon (Val := Elt Ideal) (s := S4x4096x25) (e := .f32) [
        ⟨slabRect 3, sample W (slabX x0 3) (View.ld x1 (slabRect 3))⟩,
        ⟨slabRect 2, sample W (slabX x0 2) (View.ld x1 (slabRect 2))⟩,
        ⟨slabRect 1, sample W (slabX x0 1) (View.ld x1 (slabRect 1))⟩,
        ⟨slabRect 0, sample W (slabX x0 0) (View.ld x1 (slabRect 0))⟩] y = block W x0 x1 y := by
  have hm (s : Fin 4) (h : y 0 = s) : y ∈ (slabRect s).set := by
    rw [Rect.mem_set_unit]
    intro a
    fin_cases a
    · show s.val ≤ (y 0).val ∧ (y 0).val < s.val + 1
      rw [h]
      omega
    · exact ⟨Nat.zero_le _, lt_of_lt_of_eq (y 1).isLt (Nat.zero_add _).symm⟩
    · exact ⟨Nat.zero_le _, lt_of_lt_of_eq (y 2).isLt (Nat.zero_add _).symm⟩
  refine View.canon_apply_of_pieces (block W x0 x1) _ ?_ y ?_
  · intro p hp x
    simp only [List.mem_cons, List.not_mem_nil, or_false] at hp
    rcases hp with rfl | rfl | rfl | rfl <;> exact piece_eq W x0 x1 _ x
  · obtain ⟨k, hk⟩ : ∃ k : Fin 4, y 0 = k := ⟨y 0, rfl⟩
    refine ⟨⟨slabRect k, sample W (slabX x0 k) (View.ld x1 (slabRect k))⟩, ?_, hm k hk⟩
    clear hk
    fin_cases k
    · exact .tail _ (.tail _ (.tail _ (.head _)))
    · exact .tail _ (.tail _ (.head _))
    · exact .tail _ (.head _)
    · exact .head _

/-- A load through a unit-stride rectangle, at an index. -/
theorem ld_at {s : Shape} {e : EltTy} (x : Vec Ideal s e) (off size : Fin s.rank → ℕ) (inb : ∀ a, off a + size a ≤ s.size a)
    (j : (⟨s.rank, size⟩ : Shape).Idx) (k : s.Idx) (hk : ∀ a, (k a).val = off a + (j a).val) :
    View.ld x (Rect.unit off size inb) j = x k :=
  congrArg x (funext fun a => Fin.ext (by
    show off a + 1 * (j a).val = (k a).val
    rw [one_mul, hk]))

section Weights

variable {A : Args} {x0 : Tensor S128x64x64x25} {x1 : Tensor S3x3x25x25} {x2 : Tensor S3x16x64}
    {x3 x4 x5 : Tensor S3x16} {x6 : Tensor S3x3x16x16} {x7 x8 x9 : Tensor S3x3x16} {x10 : Tensor S3x16x32}
    {x11 x12 : Tensor S3x16} {x13 x14 : Tensor S64} (h : Are A x0 x1 x2 x3 x4 x5 x6 x7 x8 x9 x10 x11 x12 x13 x14)

include h

/-- The weights as the kernel loads them hold the prepared numbers. -/
theorem holds : Stage.Holds (weights (wdt x2 x4) (bd x3 x4 x5) (pa x1) (ws x6 x8 x13) mavg (wa x10 x11) (wb x10 x11) (bb x12)
    (se x13) (bout x7 x8 x9 x13 x14)) (reals A) where
  wdt k l := (ld_at _ _ _ _ _ _ (by intro a; fin_cases a <;> simp [ix2, ix3, ix4])).trans (wdt_apply h k l)
  bd k := (ld_at _ _ _ _ _ _ (by intro a; fin_cases a <;> simp [ix2, ix3, ix4])).trans (bd_apply h k)
  pa i j u v := (ld_at _ _ _ _ _ _ (by intro a; fin_cases a <;> simp [ix2, ix3, ix4])).trans (pa_apply h i j u v)
  ws i j o k a b := (ld_at _ _ _ _ _ _ (by intro a; fin_cases a <;> simp [ix2, ix3, ix4])).trans
    (ws_apply h i j o k a b)
  mavg k t l := (ld_at _ _ _ _ _ _ (by intro a; fin_cases a <;> simp [ix2, ix3, ix4])).trans (mavg_apply k t l)
  wa i o k := (ld_at _ _ _ _ _ _ (by intro a; fin_cases a <;> simp [ix2, ix3, ix4])).trans (wa_apply h i o k)
  wb i o k := (ld_at _ _ _ _ _ _ (by intro a; fin_cases a <;> simp [ix2, ix3, ix4])).trans (wb_apply h i o k)
  bb i o := (ld_at _ _ _ _ _ _ (by intro a; fin_cases a <;> simp [ix2, ix3, ix4])).trans (bb_apply h i o)
  se o := (ld_at _ _ _ _ _ _ (by intro a; fin_cases a <;> simp [ix2, ix3, ix4])).trans (se_apply h o)
  bout k := (ld_at _ _ _ _ _ _ (by intro a; fin_cases a <;> simp [ix2, ix3, ix4])).trans (bout_apply h k)

end Weights

section Blocks

variable (m : (ℓ : Loc nD τ sig) → Buf (Elt Ideal) ℓ) (c : Dev nD) (t : Fin cfg0.N)

/-! A weight's window is its whole array at every grid point. -/

/-- The first convolution's weights. -/
theorem iblk2 : iblk m c 2 t = wdt (arg2 m c) (arg4 m c) :=
  (funext fun y => congrArg (V m c main_call0_v11) (funext fun a => Fin.ext
    (Pipeline.Window.rect_emb_val_of_index_zero win0_2 t a (by fin_cases a <;> rfl) y))).trans (host_v11 m c)

/-- The first convolution's biases. -/
theorem iblk3 : iblk m c 3 t = bd (arg3 m c) (arg4 m c) (arg5 m c) :=
  (funext fun y => congrArg (V m c main_call0_v14) (funext fun a => Fin.ext
    (Pipeline.Window.rect_emb_val_of_index_zero win0_3 t a (by fin_cases a <;> rfl) y))).trans (host_v14 m c)

/-- The adjacency matrices. -/
theorem iblk4 : iblk m c 4 t = pa (arg1 m c) :=
  (funext fun y => congrArg (V m c main_call0_v16) (funext fun a => Fin.ext
    (Pipeline.Window.rect_emb_val_of_index_zero win0_4 t a (by fin_cases a <;> rfl) y))).trans (host_v16 m c)

/-- The mixing matrices. -/
theorem iblk5 : iblk m c 5 t = ws (arg6 m c) (arg8 m c) (arg13 m c) :=
  (funext fun y => congrArg (V m c main_call0_v42) (funext fun a => Fin.ext
    (Pipeline.Window.rect_emb_val_of_index_zero win0_5 t a (by fin_cases a <;> rfl) y))).trans (host_v42 m c)

/-- The averaging matrix. -/
theorem iblk6 : iblk m c 6 t = mavg :=
  (funext fun y => congrArg (V m c main_call0_v53) (funext fun a => Fin.ext
    (Pipeline.Window.rect_emb_val_of_index_zero win0_6 t a (by fin_cases a <;> rfl) y))).trans (host_v53 m c)

/-- The neighbour's edge weights. -/
theorem iblk7 : iblk m c 7 t = wa (arg10 m c) (arg11 m c) :=
  (funext fun y => congrArg (V m c main_call0_v61) (funext fun a => Fin.ext
    (Pipeline.Window.rect_emb_val_of_index_zero win0_7 t a (by fin_cases a <;> rfl) y))).trans (host_v61 m c)

/-- The vertex's own edge weights. -/
theorem iblk8 : iblk m c 8 t = wb (arg10 m c) (arg11 m c) :=
  (funext fun y => congrArg (V m c main_call0_v65) (funext fun a => Fin.ext
    (Pipeline.Window.rect_emb_val_of_index_zero win0_8 t a (by fin_cases a <;> rfl) y))).trans (host_v65 m c)

/-- The edge biases. -/
theorem iblk9 : iblk m c 9 t = bb (arg12 m c) :=
  (funext fun y => congrArg (V m c main_call0_v66) (funext fun a => Fin.ext
    (Pipeline.Window.rect_emb_val_of_index_zero win0_9 t a (by fin_cases a <;> rfl) y))).trans (host_v66 m c)

/-- The edges' output scale. -/
theorem iblk10 : iblk m c 10 t = se (arg13 m c) :=
  (funext fun y => congrArg (V m c main_call0_v71) (funext fun a => Fin.ext
    (Pipeline.Window.rect_emb_val_of_index_zero win0_10 t a (by fin_cases a <;> rfl) y))).trans (host_v71 m c)

/-- The last biases. -/
theorem iblk11 : iblk m c 11 t = bout (arg7 m c) (arg8 m c) (arg9 m c) (arg13 m c) (arg14 m c) :=
  (funext fun y => congrArg (V m c main_call0_v83) (funext fun a => Fin.ext
    (Pipeline.Window.rect_emb_val_of_index_zero win0_11 t a (by fin_cases a <;> rfl) y))).trans (host_v83 m c)

end Blocks

end Cert.Host

end
-- ==== Proof.Result.lean ====
/- The kernel's result, index by index: the unit over the reals. -/
module

public import proofs.«01_k».proof.Proof.Array

@[expose] public section

noncomputable section

namespace Cert.Host

open Idealize.ShloMosaic Idealize.ShloMosaic.TcCoe Idealize.ShloMosaic.ValueIdx Cert.KernelIdeal Cert.KernelIdeal.Gen
open Idealize.SL.Sem
open Cert.Index Cert.Spec Cert.Body
open Cert.Ref (Tensor Are)

variable (m : (ℓ : Loc nD τ sig) → Buf (Elt Ideal) ℓ) (c : Dev nD)

/-- The sample of a grid point and a slab. -/
def ns (t : Fin cfg0.N) (s : Fin 4) : Fin 128 := ⟨4 * t.val + s.val, by have := t.isLt; have : cfg0.N = 32 := rfl; omega⟩

/-- The inputs' window moves with the grid point. -/
theorem index0 : ∀ t : Fin grid0.N, win0_0.index t = ![t.val, 0, 0] := by decide +kernel

/-- The residual's window moves with the grid point. -/
theorem index1 : ∀ t : Fin grid0.N, win0_1.index t = ![t.val, 0, 0] := by decide +kernel

/-- The output's window moves with the grid point. -/
theorem index12 : ∀ t : Fin grid0.N, win0_12.index t = ![t.val, 0, 0] := by decide +kernel

/-- A block of inputs holds four samples. -/
theorem iblk0 (t : Fin cfg0.N) (s : Fin 4) (k : Fin 64) (r : Fin 1600) :
    iblk m c 0 t (ix3 s k r) = V m c main_call0_v0 (ix3 (ns t s) k r) :=
  congrArg (V m c main_call0_v0) (funext fun a => Fin.ext ((Pipeline.Window.rect_emb_val win0_0 t (ix3 s k r) a).trans (by
    rw [index0]
    fin_cases a
    · show t.val * 4 + s.val = 4 * t.val + s.val
      omega
    · show 0 * 64 + k.val = k.val
      omega
    · show 0 * 1600 + r.val = r.val
      omega)))

/-- A block of the residual holds four samples. -/
theorem iblk1 (t : Fin cfg0.N) (s : Fin 4) (k : Fin 4096) (v : Fin 25) :
    iblk m c 1 t (ix3 s k v) = V m c main_call0_v1 (ix3 (ns t s) k v) :=
  congrArg (V m c main_call0_v1) (funext fun a => Fin.ext ((Pipeline.Window.rect_emb_val win0_1 t (ix3 s k v) a).trans (by
    rw [index1]
    fin_cases a
    · show t.val * 4 + s.val = 4 * t.val + s.val
      omega
    · show 0 * 4096 + k.val = k.val
      omega
    · show 0 * 25 + v.val = v.val
      omega)))

/-- Where a block's index lies in the output array. -/
theorem emb12 (t : Fin cfg0.N) (s : Fin 4) (k : Fin 4096) (v : Fin 25) :
    ((cfg0.win 12).blk t).view.emb (ix3 s k v) = ix3 (ns t s) k v :=
  funext fun a => Fin.ext ((Pipeline.Window.rect_emb_val win0_12 t (ix3 s k v) a).trans (by
    rw [index12]
    fin_cases a
    · show t.val * 4 + s.val = 4 * t.val + s.val
      omega
    · show 0 * 4096 + k.val = k.val
      omega
    · show 0 * 25 + v.val = v.val
      omega))

/-- The output array at a grid point's sample is that point's block there. -/
theorem array_block (t : Fin cfg0.N) (s : Fin 4) (k : Fin 4096) (v : Fin 25) :
    (dats m 0 c).arrAt 12 cfg0.N (ix3 (ns t s) k v)
      = out0_12 (iblk m c 0 t) (iblk m c 1 t) (iblk m c 2 t) (iblk m c 3 t) (iblk m c 4 t) (iblk m c 5 t) (iblk m c 6 t)
          (iblk m c 7 t) (iblk m c 8 t) (iblk m c 9 t) (iblk m c 10 t) (iblk m c 11 t) (ix3 s k v) := by
  have h := congrFun ((Value.blocks12 m c t (flush0_12 t)).trans (Value.flushed12 m c t)) (ix3 s k v)
  rw [View.read_apply, emb12] at h
  exact h

variable {A : Args} (h : Are A (arg0 m c) (arg1 m c) (arg2 m c) (arg3 m c) (arg4 m c) (arg5 m c) (arg6 m c) (arg7 m c) (arg8 m c)
  (arg9 m c) (arg10 m c) (arg11 m c) (arg12 m c) (arg13 m c) (arg14 m c))

include h

/-- A sample's inputs are the argument's. -/
theorem slab_x (t : Fin cfg0.N) (s : Fin 4) (k r : Fin 64) (v : Fin 25) :
    slabX (iblk m c 0 t) s (ix3 0 k (tv r v)) = ((A.x (ns t s) k r v : ℝ) : EReal) := by
  refine (ld_at (s := S4x64x1600) (e := .f32) (iblk m c 0 t) _ _ _ _ (ix3 s k (tv r v)) (by intro a; fin_cases a <;> simp [ix3])).trans ?_
  rw [iblk0, host_v0]
  refine (shapeCast_apply _ _ (ix3 (ns t s) k (tv r v)) (ix4 (ns t s) k r v) ?_).trans (h.x _)
  refine (rm4 _ _ _ _).trans (Eq.trans ?_ (rm3 _ _ _).symm)
  simp only [tv]; omega

/-- A sample's residual is the argument's. -/
theorem slab_r (t : Fin cfg0.N) (s : Fin 4) (k r : Fin 64) (v : Fin 25) :
    View.ld (iblk m c 1 t) (slabRect s) (ix3 0 (ct k r) v) = ((A.x (ns t s) k r v : ℝ) : EReal) := by
  refine (ld_at (s := S4x4096x25) (e := .f32) (iblk m c 1 t) _ _ _ _ (ix3 s (ct k r) v) (by intro a; fin_cases a <;> simp [ix3])).trans ?_
  rw [iblk1, host_v1]
  refine (shapeCast_apply _ _ (ix3 (ns t s) (ct k r) v) (ix4 (ns t s) k r v) ?_).trans (h.x _)
  refine (rm4 _ _ _ _).trans (Eq.trans ?_ (rm3 _ _ _).symm)
  simp only [ct]; omega

/-- The kernel's output is the unit's, for any ranking of the neighbours by score. -/
theorem array_eq (σ : Fin 3 → Fin 128 → Fin 25 → Equiv.Perm (Fin 25)) (hσ : ∀ l n v, Select.Ranks (score A l n v) (σ l n v))
    (n : Fin 128) (j : Fin 4) (o : Fin 16) (r : Fin 64) (v : Fin 25) :
    (dats m 0 c).arrAt 12 cfg0.N (ix3 n (ct (jo j o) r) v) = ((out A (fun l => σ l n v) n j o r v : ℝ) : EReal) := by
  obtain ⟨t, s, rfl⟩ : ∃ t s, n = ns t s := by
    have e : cfg0.N = 32 := rfl
    exact ⟨⟨n.val / 4, by omega⟩, ⟨n.val % 4, by omega⟩, Fin.ext (by simp only [ns]; omega)⟩
  rw [array_block, Body.out_eq, canon_eq]
  unfold block
  refine (Stage.sample_holds ?_ (slabX (iblk m c 0 t) s) (A.x (ns t s)) (slab_x m c h t s) (fun l w => σ l (ns t s) w)
    (fun l w => ranks_eq A (ns t s) l w _ (hσ l (ns t s) w)) (View.ld (iblk m c 1 t) (slabRect s)) (slab_r m c h t s) j o r v).trans
    (congrArg _ (out_eq A (ns t s) (fun l w => σ l (ns t s) w) j o r v))
  rw [iblk2, iblk3, iblk4, iblk5, iblk6, iblk7, iblk8, iblk9, iblk10, iblk11]
  exact holds h

end Cert.Host

end
-- ==== Proof.lean ====
/- The proof of the claims: both kernels and the reference run and leave their arguments, the mask's name stands for the value
   the table gives, and over the reals the kernel's output is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite_no_tie
public import proofs.«01_k».proof.Proof.Pre
public import proofs.«01_k».proof.Proof.RefOut
public import proofs.«01_k».proof.Proof.Result
public import Idealize.ShloMosaic.Adequacy
public import Idealize.ShloMosaic.Init

@[expose] public section

noncomputable section

namespace Cert.Proof

open Idealize.ShloMosaic Idealize.ShloMosaic.TcCoe Idealize.SL.Sem Idealize.ShloMosaic.ValueIdx Cert.Index

/-- The reference runs, leaves its arguments, and has no semaphores. -/
theorem frame_reference : Cert.quiescent_ReferenceIdeal (hReferenceIdeal := Cert.ReferenceIdeal.Gen.facts) := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- Every index of the output is a sample's, a channel's, a frame's and a vertex's. -/
theorem index_cases (i : Cert.KernelIdeal.S128x4096x25.Idx) :
    ∃ (n : Fin 128) (j : Fin 4) (o : Fin 16) (t : Fin 64) (v : Fin 25), i = ix3 n (ct (jo j o) t) v := by
  have hk : (i 1).val < 4096 := (i 1).isLt
  refine ⟨i 0, ⟨(i 1).val / 1024, by omega⟩, ⟨(i 1).val / 64 % 16, by omega⟩, ⟨(i 1).val % 64, by omega⟩, i 2, ?_⟩
  refine (eq_ix3 i).trans (congrArg (fun k : Fin 4096 => ix3 (i 0) k (i 2)) (Fin.ext ?_))
  simp only [ct, jo]
  omega

/-- From equal arguments the kernel and the reference end with equal outputs over the reals. -/
theorem algebraic : Cert.algebraic_KernelIdeal_ReferenceIdeal_pre_finite_no_tie (hKernelIdeal := Cert.KernelIdeal.Gen.facts)
    (hReferenceIdeal := Cert.ReferenceIdeal.Gen.facts) (hPre_finite_no_tie := Cert.Pre_finite_no_tie.Gen.facts) := by
  intro m g m' g' hpre hagree
  refine ⟨fun c => (Cert.KernelIdeal.Gen.dats m 0 c).arrAt 12 Cert.KernelIdeal.cfg0.N,
    Cert.KernelIdeal.Value.run_blocks m g, ?_⟩
  refine (θ_run Cert.ReferenceIdeal.defs _ _).mono (fun r h c => ⟨(h c).1.trans ?_, (h c).2⟩)
    (Cert.ReferenceIdeal.Value.run (F := Ideal) m' g')
  obtain ⟨p0, p1, p2, p3, p4, p5, p6, p7, p8, p9, p10, p11, p12, p13, p14, p15⟩ := hpre c
  obtain ⟨A, hA, hr⟩ := Cert.Pre.holds _ _ _ _ _ _ _ _ _ _ _ _ _ _ _ _ rfl p0 p1 p2 p3 p4 p5 p6 p7 p8 p9 p10 p11 p12 p13 p14 p15
  obtain ⟨e0, e1, e2, e3, e4, e5, e6, e7, e8, e9, e10, e11, e12, e13, e14⟩ := hagree c
  rw [Cert.ReferenceIdeal.Read.val_main_v99_eq, e0, e1, e2, e3, e4, e5, e6, e7, e8, e9, e10, e11, e12, e13, e14]
  funext i
  obtain ⟨n, j, o, t, v, rfl⟩ := index_cases i
  exact (Cert.Ref.out_ref hA n j o t v).trans
    (Cert.Host.array_eq m c hA (fun l n v => Cert.Ref.order (Cert.Spec.score A l n v)) hr n j o t v).symm

/-- Everything claimed. -/
theorem claim : Cert.Claim := ⟨Cert.Kernel.Gen.facts, Cert.KernelIdeal.Gen.facts, Cert.ReferenceIdeal.Gen.facts,
  Cert.Pre_finite_no_tie.Gen.facts, fun m ρ _ => Cert.Kernel.Gen.frame m ρ, fun m ρ _ => Cert.KernelIdeal.Gen.frame m ρ,
  fun m ρ _ => Cert.KernelIdeal.Gen.frame m ρ, frame_reference, fun m ρ _ => frame_reference m ρ trivial,
  IdealRules.named_const.statement Cert.KernelIdeal.κ "mask" .f32 0xF149F2CA#32 ⊥ rfl, algebraic⟩

end Cert.Proof

end
